-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_inputs [hPre_tame_inputs : Cert.Pre_tame_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_inputs [hPre_tame_inputs : Cert.Pre_tame_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame_inputs [hKernelIdeal : Cert.KernelIdeal.Facts] [hPre_tame_inputs : Cert.Pre_tame_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame_inputs [hReferenceIdeal : Cert.ReferenceIdeal.Facts] [hPre_tame_inputs : Cert.Pre_tame_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame_inputs [hKernelIdeal : Cert.KernelIdeal.Facts] [hReferenceIdeal : Cert.ReferenceIdeal.Facts] [hPre_tame_inputs : Cert.Pre_tame_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame_inputs : Cert.Pre_tame_inputs.Facts),
    quiescent_Kernel (hKernel := hKernel)
    ∧ quiescent_KernelIdeal (hKernelIdeal := hKernelIdeal)
    ∧ quiescent_KernelIdeal_pre_tame_inputs (hKernelIdeal := hKernelIdeal) (hPre_tame_inputs := hPre_tame_inputs)
    ∧ quiescent_ReferenceIdeal (hReferenceIdeal := hReferenceIdeal)
    ∧ quiescent_ReferenceIdeal_pre_tame_inputs (hReferenceIdeal := hReferenceIdeal) (hPre_tame_inputs := hPre_tame_inputs)
    ∧ preserves_Kernel_KernelIdeal
    ∧ algebraic_KernelIdeal_ReferenceIdeal_pre_tame_inputs (hKernelIdeal := hKernelIdeal) (hReferenceIdeal := hReferenceIdeal) (hPre_tame_inputs := hPre_tame_inputs)
-- ==== Pre_tame_inputs.lean ====
abbrev S4096x6x3 : Shape := ⟨3, ![4096, 6, 3]⟩
abbrev S4096 : Shape := ⟨1, ![4096]⟩
abbrev S9x16 : Shape := ⟨2, ![9, 16]⟩
abbrev S4096x1x3 : Shape := ⟨3, ![4096, 1, 3]⟩
abbrev S4096x3 : Shape := ⟨2, ![4096, 3]⟩
abbrev S_ : Shape := ⟨0, ![]⟩

class Facts : Prop where
  slices_S4096x6x3_S4096x1x3_0_5_0 : S4096x6x3.Slices ![0, 5, 0] S4096x1x3
  shapeCasts_S4096x1x3_S4096x3 : S4096x1x3.ShapeCasts S4096x3
  bcast_S_S4096x3 : S_.BroadcastsInDim S4096x3 (![] : Fin 0 → Fin S4096x3.rank)
  bcast_S_S4096 : S_.BroadcastsInDim S4096 (![] : Fin 0 → Fin S4096.rank)

variable [Facts]

def fn {F : FTy → Type} [FloatOps F] (main_arg0 : FVec F S4096x6x3 .f32) (main_arg1 : IVec S4096 32) (main_arg2 : FVec F S9x16 .f32) : IVec S4096x3 1 × IVec S4096 1 :=
  let main_v0 : FVec F S4096x1x3 .f32 := (extractStridedSlice S4096x1x3 ![0, 5, 0] · slices_S4096x6x3_S4096x1x3_0_5_0) main_arg0
  let main_v1 : FVec F S4096x3 .f32 := shapeCast S4096x3 main_v0 shapeCasts_S4096x1x3_S4096x3
  let main_v2 : FVec F S4096x3 .f32 := Host.absf main_v1
  let main_cst : FVec F S_ .f32 := constant S_ .f32 0x7F800000#32
  let main_v3 : FVec F S4096x3 .f32 := broadcastInDim S4096x3 ![] bcast_S_S4096x3 main_cst
  let main_v4 : IVec S4096x3 1 := cmpf .olt main_v2 main_v3
  let main_c : IVec S_ 32 := constantI S_ 32 0#32
  let main_v5 : IVec S4096 32 := broadcastInDim S4096 ![] bcast_S_S4096 main_c
  let main_v6 : IVec S4096 1 := cmpi .sge main_arg1 main_v5
  let main_c_0 : IVec S_ 32 := constantI S_ 32 9#32
  let main_v7 : IVec S4096 32 := broadcastInDim S4096 ![] bcast_S_S4096 main_c_0
  let main_v8 : IVec S4096 1 := cmpi .slt main_arg1 main_v7
  let main_v9 : IVec S4096 1 := andi main_v6 main_v8
  (main_v4, main_v9)
-- ==== Kernel.lean ====
abbrev S4096x6x3 : Shape := ⟨3, ![4096, 6, 3]⟩
abbrev S4096 : Shape := ⟨1, ![4096]⟩
abbrev S9x16 : Shape := ⟨2, ![9, 16]⟩
abbrev S4096x18 : Shape := ⟨2, ![4096, 18]⟩
abbrev S4096x1x3 : Shape := ⟨3, ![4096, 1, 3]⟩
abbrev S4096x3 : Shape := ⟨2, ![4096, 3]⟩
abbrev S_ : Shape := ⟨0, ![]⟩
abbrev S8x4096 : Shape := ⟨2, ![8, 4096]⟩
abbrev S3x4096 : Shape := ⟨2, ![3, 4096]⟩
abbrev S1 : Shape := ⟨1, ![1]⟩
abbrev S4096x1 : Shape := ⟨2, ![4096, 1]⟩
abbrev S4096x37 : Shape := ⟨2, ![4096, 37]⟩
abbrev S4096x16 : Shape := ⟨2, ![4096, 16]⟩
abbrev S256x18 : Shape := ⟨2, ![256, 18]⟩
abbrev S256x1 : Shape := ⟨2, ![256, 1]⟩
abbrev S256x37 : Shape := ⟨2, ![256, 37]⟩
abbrev S256x16 : Shape := ⟨2, ![256, 16]⟩
abbrev S1x4096 : Shape := ⟨2, ![1, 4096]⟩
abbrev S256x4096 : Shape := ⟨2, ![256, 4096]⟩
abbrev S256 : Shape := ⟨1, ![256]⟩
abbrev S256x15 : Shape := ⟨2, ![256, 15]⟩
abbrev S256x3 : Shape := ⟨2, ![256, 3]⟩
abbrev S256x6 : Shape := ⟨2, ![256, 6]⟩
abbrev S1x16 : Shape := ⟨2, ![1, 16]⟩
abbrev S65536 : Shape := ⟨1, ![65536]⟩
abbrev S1x65536 : Shape := ⟨2, ![1, 65536]⟩
abbrev S2x65536 : Shape := ⟨2, ![2, 65536]⟩
abbrev S4096x16x1 : Shape := ⟨3, ![4096, 16, 1]⟩
abbrev S4096x16x4 : Shape := ⟨3, ![4096, 16, 4]⟩
abbrev S65536x4 : Shape := ⟨2, ![65536, 4]⟩

abbrev nBuf : Space → Nat
  | .hbm => 31
  | .vmem => 20
  | .smem => 0
  | _ => 0

abbrev bufTy : (tb : Table) → Fin (tcTables nBuf tb) → BufTy
  | .hbm, ⟨0, _⟩ => ⟨S4096x6x3, .f32⟩
  | .hbm, ⟨1, _⟩ => ⟨S4096, .i32⟩
  | .hbm, ⟨2, _⟩ => ⟨S9x16, .f32⟩
  | .hbm, ⟨3, _⟩ => ⟨S4096x18, .f32⟩
  | .hbm, ⟨4, _⟩ => ⟨S4096x1x3, .f32⟩
  | .hbm, ⟨5, _⟩ => ⟨S4096x3, .f32⟩
  | .hbm, ⟨6, _⟩ => ⟨S_, .f32⟩
  | .hbm, ⟨7, _⟩ => ⟨S8x4096, .f32⟩
  | .hbm, ⟨8, _⟩ => ⟨S3x4096, .f32⟩
  | .hbm, ⟨9, _⟩ => ⟨S_, .i32⟩
  | .hbm, ⟨10, _⟩ => ⟨S1, .i32⟩
  | .hbm, ⟨11, _⟩ => ⟨S8x4096, .f32⟩
  | .hbm, ⟨12, _⟩ => ⟨S4096x1, .i32⟩
  | .hbm, ⟨13, _⟩ => ⟨S4096x37, .f32⟩
  | .hbm, ⟨14, _⟩ => ⟨S4096x16, .i32⟩
  | .hbm, ⟨15, _⟩ => ⟨S4096x16, .i32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S65536, .i32⟩
  | .hbm, ⟨21, _⟩ => ⟨S65536, .i32⟩
  | .hbm, ⟨22, _⟩ => ⟨S1x65536, .i32⟩
  | .hbm, ⟨23, _⟩ => ⟨S1x65536, .i32⟩
  | .hbm, ⟨24, _⟩ => ⟨S2x65536, .i32⟩
  | .hbm, ⟨25, _⟩ => ⟨S4096x16x1, .f32⟩
  | .hbm, ⟨26, _⟩ => ⟨S4096x16x1, .f32⟩
  | .hbm, ⟨27, _⟩ => ⟨S4096x16x1, .f32⟩
  | .hbm, ⟨28, _⟩ => ⟨S4096x16x1, .f32⟩
  | .hbm, ⟨29, _⟩ => ⟨S4096x16x4, .f32⟩
  | .hbm, ⟨30, _⟩ => ⟨S65536x4, .f32⟩
  | .local _ .vmem, ⟨0, _⟩ => ⟨S256x18, .f32⟩
  | .local _ .vmem, ⟨1, _⟩ => ⟨S256x18, .f32⟩
  | .local _ .vmem, ⟨2, _⟩ => ⟨S8x4096, .f32⟩
  | .local _ .vmem, ⟨3, _⟩ => ⟨S256x1, .i32⟩
  | .local _ .vmem, ⟨4, _⟩ => ⟨S256x1, .i32⟩
  | .local _ .vmem, ⟨5, _⟩ => ⟨S9x16, .f32⟩
  | .local _ .vmem, ⟨6, _⟩ => ⟨S256x37, .f32⟩
  | .local _ .vmem, ⟨7, _⟩ => ⟨S256x37, .f32⟩
  | .local _ .vmem, ⟨8, _⟩ => ⟨S256x16, .i32⟩
  | .local _ .vmem, ⟨9, _⟩ => ⟨S256x16, .i32⟩
  | .local _ .vmem, ⟨10, _⟩ => ⟨S256x16, .i32⟩
  | .local _ .vmem, ⟨11, _⟩ => ⟨S256x16, .i32⟩
  | .local _ .vmem, ⟨12, _⟩ => ⟨S256x16, .f32⟩
  | .local _ .vmem, ⟨13, _⟩ => ⟨S256x16, .f32⟩
  | .local _ .vmem, ⟨14, _⟩ => ⟨S256x16, .f32⟩
  | .local _ .vmem, ⟨15, _⟩ => ⟨S256x16, .f32⟩
  | .local _ .vmem, ⟨16, _⟩ => ⟨S256x16, .f32⟩
  | .local _ .vmem, ⟨17, _⟩ => ⟨S256x16, .f32⟩
  | .local _ .vmem, ⟨18, _⟩ => ⟨S256x16, .f32⟩
  | .local _ .vmem, ⟨19, _⟩ => ⟨S256x16, .f32⟩
  | _, _ => ⟨S4096x6x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x37 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x6x3 : Shape := ⟨3, ![4096, 6, 3]⟩
abbrev S4096 : Shape := ⟨1, ![4096]⟩
abbrev S9x16 : Shape := ⟨2, ![9, 16]⟩
abbrev S4096x5x3 : Shape := ⟨3, ![4096, 5, 3]⟩
abbrev S4096x1x3 : Shape := ⟨3, ![4096, 1, 3]⟩
abbrev S4096x3 : Shape := ⟨2, ![4096, 3]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S3x4096 : Shape := ⟨2, ![3, 4096]⟩
abbrev S4096x16 : Shape := ⟨2, ![4096, 16]⟩
abbrev S65536 : Shape := ⟨1, ![65536]⟩
abbrev S1x65536 : Shape := ⟨2, ![1, 65536]⟩
abbrev S2x65536 : Shape := ⟨2, ![2, 65536]⟩
abbrev S4096x15 : Shape := ⟨2, ![4096, 15]⟩
abbrev S3 : Shape := ⟨1, ![3]⟩
abbrev S1x3 : Shape := ⟨2, ![1, 3]⟩
abbrev S4096x6 : Shape := ⟨2, ![4096, 6]⟩
abbrev S1 : Shape := ⟨1, ![1]⟩
abbrev S1x1 : Shape := ⟨2, ![1, 1]⟩
abbrev S4096x37 : Shape := ⟨2, ![4096, 37]⟩
abbrev S65536x1 : Shape := ⟨2, ![65536, 1]⟩
abbrev S65536x3 : Shape := ⟨2, ![65536, 3]⟩
abbrev S65536x4 : Shape := ⟨2, ![65536, 4]⟩

abbrev nBuf : Space → Nat
  | .hbm => 116
  | .vmem => 0
  | .smem => 0
  | _ => 0

abbrev bufTy : (tb : Table) → Fin (tcTables nBuf tb) → BufTy
  | .hbm, ⟨0, _⟩ => ⟨S4096x6x3, .f32⟩
  | .hbm, ⟨1, _⟩ => ⟨S4096, .i32⟩
  | .hbm, ⟨2, _⟩ => ⟨S9x16, .f32⟩
  | .hbm, ⟨3, _⟩ => ⟨S4096x5x3, .f32⟩
  | .hbm, ⟨4, _⟩ => ⟨S4096x5x3, .f32⟩
  | .hbm, ⟨5, _⟩ => ⟨S4096x5x3, .f32⟩
  | .hbm, ⟨6, _⟩ => ⟨S4096x1x3, .f32⟩
  | .hbm, ⟨7, _⟩ => ⟨S4096x3, .f32⟩
  | .hbm, ⟨8, _⟩ => ⟨S4096x3, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S3x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x16, .f32⟩
  | .hbm, ⟨24, _⟩ => ⟨S4096x16, .i32⟩
  | .hbm, ⟨25, _⟩ => ⟨S4096, .i32⟩
  | .hbm, ⟨26, _⟩ => ⟨S4096x16, .i32⟩
  | .hbm, ⟨27, _⟩ => ⟨S65536, .i32⟩
  | .hbm, ⟨28, _⟩ => ⟨S65536, .i32⟩
  | .hbm, ⟨29, _⟩ => ⟨S1x65536, .i32⟩
  | .hbm, ⟨30, _⟩ => ⟨S1x65536, .i32⟩
  | .hbm, ⟨31, _⟩ => ⟨S2x65536, .i32⟩
  | .hbm, ⟨32, _⟩ => ⟨S_, .f32⟩
  | .hbm, ⟨33, _⟩ => ⟨S4096x5x3, .f32⟩
  | .hbm, ⟨34, _⟩ => ⟨S4096x5x3, .f32⟩
  | .hbm, ⟨35, _⟩ => ⟨S_, .f32⟩
  | .hbm, ⟨36, _⟩ => ⟨S4096x5x3, .f32⟩
  | .hbm, ⟨37, _⟩ => ⟨S4096x5x3, .f32⟩
  | .hbm, ⟨38, _⟩ => ⟨S4096x15, .f32⟩
  | .hbm, ⟨39, _⟩ => ⟨S_, .f32⟩
  | .hbm, ⟨40, _⟩ => ⟨S3, .f32⟩
  | .hbm, ⟨41, _⟩ => ⟨S_, .f32⟩
  | .hbm, ⟨42, _⟩ => ⟨S3, .f32⟩
  | .hbm, ⟨43, _⟩ => ⟨S1x3, .f32⟩
  | .hbm, ⟨44, _⟩ => ⟨S4096x3, .f32⟩
  | .hbm, ⟨45, _⟩ => ⟨S4096x3, .f32⟩
  | .hbm, ⟨46, _⟩ => ⟨S1x3, .f32⟩
  | .hbm, ⟨47, _⟩ => ⟨S4096x3, .f32⟩
  | .hbm, ⟨48, _⟩ => ⟨S4096x3, .f32⟩
  | .hbm, ⟨49, _⟩ => ⟨S4096x6, .f32⟩
  | .hbm, ⟨50, _⟩ => ⟨S_, .f32⟩
  | .hbm, ⟨51, _⟩ => ⟨S4096x6, .f32⟩
  | .hbm, ⟨52, _⟩ => ⟨S4096x6, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x6, .f32⟩
  | .hbm, ⟨57, _⟩ => ⟨S4096x6, .f32⟩
  | .hbm, ⟨58, _⟩ => ⟨S_, .f32⟩
  | .hbm, ⟨59, _⟩ => ⟨S4096x6, .f32⟩
  | .hbm, ⟨60, _⟩ => ⟨S4096x6, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S1, .i32⟩
  | .hbm, ⟨70, _⟩ => ⟨S_, .i32⟩
  | .hbm, ⟨71, _⟩ => ⟨S4096x1, .i32⟩
  | .hbm, ⟨72, _⟩ => ⟨S4096x1, .i1⟩
  | .hbm, ⟨73, _⟩ => ⟨S1x1, .i32⟩
  | .hbm, ⟨74, _⟩ => ⟨S4096x1, .i32⟩
  | .hbm, ⟨75, _⟩ => ⟨S4096x1, .i1⟩
  | .hbm, ⟨76, _⟩ => ⟨S4096x1, .i1⟩
  | .hbm, ⟨77, _⟩ => ⟨S_, .i1⟩
  | .hbm, ⟨78, _⟩ => ⟨S4096, .i1⟩
  | .hbm, ⟨79, _⟩ => ⟨S4096x16, .f32⟩
  | .hbm, ⟨80, _⟩ => ⟨S4096x16, .i1⟩
  | .hbm, ⟨81, _⟩ => ⟨S_, .f32⟩
  | .hbm, ⟨82, _⟩ => ⟨S4096x16, .f32⟩
  | .hbm, ⟨83, _⟩ => ⟨S4096x16, .f32⟩
  | .hbm, ⟨84, _⟩ => ⟨S4096x37, .f32⟩
  | .hbm, ⟨85, _⟩ => ⟨S_, .i32⟩
  | .hbm, ⟨86, _⟩ => ⟨S65536, .i32⟩
  | .hbm, ⟨87, _⟩ => ⟨S65536, .i1⟩
  | .hbm, ⟨88, _⟩ => ⟨S_, .i32⟩
  | .hbm, ⟨89, _⟩ => ⟨S65536, .i32⟩
  | .hbm, ⟨90, _⟩ => ⟨S65536, .i32⟩
  | .hbm, ⟨91, _⟩ => ⟨S65536, .i32⟩
  | .hbm, ⟨92, _⟩ => ⟨S65536x1, .i32⟩
  | .hbm, ⟨93, _⟩ => ⟨S65536x3, .f32⟩
  | .hbm, ⟨94, _⟩ => ⟨S_, .i32⟩
  | .hbm, ⟨95, _⟩ => ⟨S65536, .i32⟩
  | .hbm, ⟨96, _⟩ => ⟨S65536, .i1⟩
  | .hbm, ⟨97, _⟩ => ⟨S_, .i32⟩
  | .hbm, ⟨98, _⟩ => ⟨S65536, .i32⟩
  | .hbm, ⟨99, _⟩ => ⟨S65536, .i32⟩
  | .hbm, ⟨100, _⟩ => ⟨S65536, .i32⟩
  | .hbm, ⟨101, _⟩ => ⟨S65536x1, .i32⟩
  | .hbm, ⟨102, _⟩ => ⟨S65536x3, .f32⟩
  | .hbm, ⟨103, _⟩ => ⟨S65536x3, .f32⟩
  | .hbm, ⟨104, _⟩ => ⟨S_, .f32⟩
  | .hbm, ⟨105, _⟩ => ⟨S65536x3, .f32⟩
  | .hbm, ⟨106, _⟩ => ⟨S65536x3, .f32⟩
  | .hbm, ⟨107, _⟩ => ⟨S65536x3, .f32⟩
  | .hbm, ⟨108, _⟩ => ⟨S_, .f32⟩
  | .hbm, ⟨109, _⟩ => ⟨S65536, .f32⟩
  | .hbm, ⟨110, _⟩ => ⟨S65536x1, .f32⟩
  | .hbm, ⟨111, _⟩ => ⟨S_, .f32⟩
  | .hbm, ⟨112, _⟩ => ⟨S65536x1, .f32⟩
  | .hbm, ⟨113, _⟩ => ⟨S65536x1, .f32⟩
  | .hbm, ⟨114, _⟩ => ⟨S65536x1, .f32⟩
  | .hbm, ⟨115, _⟩ => ⟨S65536x4, .f32⟩
  | _, _ => ⟨S4096x6x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_values : Ref sig .tc := ⟨.hbm, 23, rfl⟩
abbrev main_indices : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v41 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v42 : Ref sig .tc := ⟨.hbm, 83, rfl⟩
abbrev main_v43 : Ref sig .tc := ⟨.hbm, 84, rfl⟩
abbrev main_c : Ref sig .tc := ⟨.hbm, 85, rfl⟩
abbrev main_v44 : Ref sig .tc := ⟨.hbm, 86, rfl⟩
abbrev main_v45 : Ref sig .tc := ⟨.hbm, 87, rfl⟩
abbrev main_c_8 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_c_9 : Ref sig .tc := ⟨.hbm, 94, rfl⟩
abbrev main_v51 : Ref sig .tc := ⟨.hbm, 95, rfl⟩
abbrev main_v52 : Ref sig .tc := ⟨.hbm, 96, rfl⟩
abbrev main_c_10 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_11 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_12 : Ref sig .tc := ⟨.hbm, 108, rfl⟩
abbrev main_v62 : Ref sig .tc := ⟨.hbm, 109, rfl⟩
abbrev main_v63 : Ref sig .tc := ⟨.hbm, 110, rfl⟩
abbrev main_cst_13 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩

abbrev nD : Nat := 1
abbrev τ : Topo := Topo.v7x

variable {F : FTy → Type} [FloatOps F]
-- ==== Proof.Tame.lean ====
/- What the precondition gives: every most recent position is finite, and every type is one of the nine. -/
module

public import proofs.«01_k».proof.Pre_tame_inputs
public import Idealize.ShloMosaic.Lib.Pointwise
public import Idealize.ShloMosaic.Lib.IdealHost

@[expose] public section

set_option maxRecDepth 16384

noncomputable section

namespace Cert.Proof.Tame

open Idealize.ShloMosaic Cert.Pre_tame_inputs

/-- The shape relations of the precondition. -/
theorem facts : Cert.Pre_tame_inputs.Facts where
  slices_S4096x6x3_S4096x1x3_0_5_0 := by decide
  shapeCasts_S4096x1x3_S4096x3 := by decide
  bcast_S_S4096x3 := by decide
  bcast_S_S4096 := by decide

variable (x : FVec Ideal S4096x6x3 .f32) (t : IVec S4096 32) (e : FVec Ideal S9x16 .f32)

/-- The precondition's first result, entry by entry: the absolute value is below the largest. -/
theorem finite_apply [Cert.Pre_tame_inputs.Facts] (a : Fin 4096) (k : Fin 3) : (fn (F := Ideal) x t e).1 (ix2 a k)
    = BitVec.ofBool (decide (max (x (ix3 a 5 k)) (-(x (ix3 a 5 k))) < Ideal.ofBits FTy.f32 0x7F800000#32)) := by
  unfold fn
  dsimp only
  pointwise []
  rfl

/-- Its second result: the type is between zero and eight. -/
theorem known_apply [Cert.Pre_tame_inputs.Facts] (a : Fin 4096) : (fn (F := Ideal) x t e).2 (ix1 a)
    = IntOp.andi (IntOp.cmpi .sge (t (ix1 a)) 0#32) (IntOp.cmpi .slt (t (ix1 a)) 9#32) := by
  unfold fn
  dsimp only
  pointwise []

/-- The float word of infinity is the largest value. -/
theorem infinity : Ideal.ofBits FTy.f32 0x7F800000#32 = ⊤ := by
  simp [Ideal.ofBits, Ideal.ieee]

/-- A value whose absolute value is below the largest is neither the largest nor the smallest. -/
theorem finite_of_abs (r : EReal) (h : max r (-r) < ⊤) : r ≠ ⊤ ∧ r ≠ ⊥ := by
  refine ⟨fun e => ?_, fun e => ?_⟩ <;> subst e <;> simp at h

/-- A word between zero and eight is the word of one of the nine types. -/
theorem known_word (w : BitVec 32) (h : IntOp.andi (IntOp.cmpi .sge w 0#32) (IntOp.cmpi .slt w 9#32) = 1#1) :
    ∃ τ : Fin 9, w = BitVec.ofNat 32 τ.val := by
  have h' : BitVec.ofBool ((0#32).sle w) &&& BitVec.ofBool (w.slt 9#32) = 1#1 := h
  have h0 : (0#32).sle w = true := by
    cases e : (0#32).sle w
    · rw [e] at h'
      exact absurd h' (by cases w.slt 9#32 <;> decide)
    · rfl
  have h1 : w.slt 9#32 = true := by
    cases e : w.slt 9#32
    · rw [h0, e] at h'
      exact absurd h' (by decide)
    · rfl
  have i0 : (0 : ℤ) ≤ w.toInt := by simpa [BitVec.sle] using h0
  have i1 : w.toInt < 9 := by simpa [BitVec.slt] using h1
  rw [BitVec.toInt_eq_toNat_cond] at i0 i1
  have hb := w.isLt
  have hw : w.toNat < 9 := by split at i0 <;> omega
  exact ⟨⟨w.toNat, hw⟩, by simp⟩

/-- Under the precondition the most recent positions are finite. -/
theorem positions [Cert.Pre_tame_inputs.Facts] (h : (fn (F := Ideal) x t e).1 = fun _ => 1#1) (a : Fin 4096)
    (k : Fin 3) : x (ix3 a 5 k) ≠ ⊤ ∧ x (ix3 a 5 k) ≠ ⊥ := by
  have h1 := (finite_apply x t e a k).symm.trans (congrFun h _)
  rw [infinity] at h1
  refine finite_of_abs _ ?_
  by_contra hn
  rw [decide_eq_false hn] at h1
  exact absurd h1 (by decide)

/-- Under the precondition a particle's type is one of the nine. -/
theorem known_at [Cert.Pre_tame_inputs.Facts] (h : (fn (F := Ideal) x t e).2 = fun _ => 1#1) (a : Fin 4096) :
    ∃ τ : Fin 9, t (ix1 a) = BitVec.ofNat 32 τ.val :=
  known_word _ ((known_apply x t e a).symm.trans (congrFun h _))

/-- Under the precondition the types are an assignment of one of the nine to each particle. -/
theorem types [Cert.Pre_tame_inputs.Facts] (h : (fn (F := Ideal) x t e).2 = fun _ => 1#1) :
    ∃ τ : Fin 4096 → Fin 9, ∀ a, t (ix1 a) = BitVec.ofNat 32 (τ a).val :=
  ⟨fun a => (known_at x t e h a).choose, fun a => (known_at x t e h a).choose_spec⟩

end Cert.Proof.Tame

end
-- ==== Proof.Nearest.lean ====
/- The nearest-first order of a row of values, and what repeated "take the least, then mask it" does to it.

   Nothing here is about a program. A row is a function `f : Fin n → EReal`; `order f` lists the positions by value,
   equal values by position. Masking the first `r` positions of that list with `⊤` leaves a row whose least value is
   `f (order f r)` and whose first position holding it is `order f r`. -/
module

public import Idealize.ShloMosaic.PureOps.Ideal
public import Idealize.ShloMosaic.PureOps.Reduce
public import Idealize.ShloMosaic.Lib.SortFacts
public import Mathlib.Data.Finset.Fold
public import Mathlib.Data.EReal.Operations

@[expose] public section

noncomputable section

namespace Cert.Proof.Nearest

open Idealize.ShloMosaic

variable {n : ℕ}

/-- Position `a` comes before position `b`: its value is smaller, or the values are equal and it is the lower one. -/
def before (f : Fin n → EReal) (a b : Fin n) : Bool := decide (f a < f b ∨ (f a = f b ∧ a < b))

/-- The positions listed in that order: `order f r` is the `r`-th. -/
def order (f : Fin n → EReal) : Fin n → Fin n := sortedFrom (before f)

/-- Two relations that agree on every pair in list order sort a list alike. -/
theorem sorts_alike {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [← ih h.2]
    exact insertBefore_congr R R' a _ fun b hb => h.1 b ((perm_stableSort R l).mem_iff.mp hb)

/-- Sorting by value alone is the same order: the sort is stable and starts from the positions in order. -/
theorem sort_by_value (f : Fin n → EReal) (R : Fin n → Fin n → Bool) (hR : ∀ a b, R a b = decide (f a < f b)) :
    sortedFrom R = order f := by
  have hs : sortPositions n R = sortPositions n (before f) := by
    refine sorts_alike _ _ _ ((List.pairwise_lt_finRange n).imp fun {a b} hab => ?_)
    rw [hR]
    unfold before
    exact decide_eq_decide.mpr ⟨Or.inl, fun h => h.elim id fun h => absurd h.2 (not_lt.mpr hab.le)⟩
  funext k
  unfold order sortedFrom
  rw [List.get_of_eq hs]
  rfl

/-- Every position is in the list. -/
theorem order_surjective (f : Fin n → EReal) : Function.Surjective (order f) := sortedFrom_surjective _

/-- No position is in the list twice. -/
theorem order_injective (f : Fin n → EReal) : Function.Injective (order f) := sortedFrom_injective _

/-- A later position in the list has a larger value, or an equal one and a higher index. -/
theorem order_sorted (f : Fin n → EReal) (i j : Fin n) (h : i < j) :
    f (order f i) < f (order f j) ∨ (f (order f i) = f (order f j) ∧ order f i < order f j) := by
  have hno : before f (order f j) (order f i) = false := by
    refine sortedFrom_noInversion (before f) (before f) (fun a b hab => ?_) (fun _ _ => id) (fun a b c hab hbc => ?_) i j h
    all_goals unfold before at *
    · simp only [decide_eq_true_eq, decide_eq_false_iff_not] at *
      rintro (h | ⟨h, h'⟩) <;> rcases hab with g | ⟨g, g'⟩
      · exact lt_asymm h g
      · exact absurd h (by rw [g]; exact lt_irrefl _)
      · exact absurd g (by rw [h]; exact lt_irrefl _)
      · exact lt_asymm h' g'
    · simp only [decide_eq_false_iff_not, not_or, not_and, not_lt] at *
      refine ⟨hbc.1.trans hab.1, fun e => ?_⟩
      have hba : f b = f a := le_antisymm hab.1 (by rw [e]; exact hbc.1)
      exact (hbc.2 (hba.trans e)).trans (hab.2 hba.symm)
  have hne : order f i ≠ order f j := fun e => absurd (order_injective f e) h.ne
  unfold before at hno
  simp only [decide_eq_false_iff_not, not_or, not_and, not_lt] at hno
  rcases hno.1.lt_or_eq with g | g
  · exact Or.inl g
  · exact Or.inr ⟨g, lt_of_le_of_ne (hno.2 g.symm) hne⟩

/-- The row after `r` rounds: the first `r` positions of the list hold `⊤`, the others their value. -/
def masked (f : Fin n → EReal) (r : ℕ) (k : Fin n) : EReal :=
  if ∃ s : Fin n, s.val < r ∧ order f s = k then ⊤ else f k

/-- Before the first round nothing is masked. -/
theorem masked_zero (f : Fin n → EReal) : masked f 0 = f := by
  funext k
  exact if_neg fun ⟨_, h, _⟩ => Nat.not_lt_zero _ h

/-- One more round masks one more position. -/
theorem masked_succ (f : Fin n → EReal) (r : Fin n) (k : Fin n) :
    masked f (r.val + 1) k = if k = order f r then ⊤ else masked f r.val k := by
  unfold masked
  by_cases hk : k = order f r
  · rw [if_pos hk, if_pos ⟨r, Nat.lt_succ_self _, hk.symm⟩]
  · rw [if_neg hk]
    refine if_congr ⟨fun ⟨s, hs, e⟩ => ⟨s, lt_of_le_of_ne (Nat.le_of_lt_succ hs) fun h => hk ?_, e⟩,
      fun ⟨s, hs, e⟩ => ⟨s, Nat.lt_succ_of_lt hs, e⟩⟩ rfl rfl
    rw [← e, Fin.ext h]

/-- The position not yet masked that comes first still holds its value. -/
theorem masked_order (f : Fin n → EReal) (r : Fin n) : masked f r.val (order f r) = f (order f r) :=
  if_neg fun ⟨_, hs, e⟩ => absurd (congrArg Fin.val (order_injective f e)) hs.ne

/-- That value is the least of the row, and no lower position holds it. -/
theorem masked_least (f : Fin n → EReal) (hf : ∀ k, f k < ⊤) (r k : Fin n) :
    f (order f r) < masked f r.val k ∨ (f (order f r) = masked f r.val k ∧ order f r ≤ k) := by
  obtain ⟨s, rfl⟩ := order_surjective f k
  rcases lt_trichotomy s r with h | rfl | h
  · left
    rw [show masked f r.val (order f s) = ⊤ from if_pos ⟨s, h, rfl⟩]
    exact hf _
  · exact Or.inr ⟨(masked_order f s).symm, le_refl _⟩
  · have e : masked f r.val (order f s) = f (order f s) :=
      if_neg fun ⟨t, ht, e⟩ => absurd (order_injective f e ▸ ht) (not_lt.mpr (Fin.le_def.mp h.le))
    rw [e]
    exact (order_sorted f r s h).imp id fun h => ⟨h.1, h.2.le⟩

/-- The least value of the row, as a fold of `min` from `⊤`. -/
theorem fold_min_masked (f : Fin n → EReal) (hf : ∀ k, f k < ⊤) (r : Fin n) :
    Finset.univ.fold min ⊤ (masked f r.val) = f (order f r) := by
  refine le_antisymm ?_ ?_
  · exact (Finset.fold_min_le _).mpr (Or.inr ⟨order f r, Finset.mem_univ _, (masked_order f r).le⟩)
  · exact (Finset.le_fold_min _).mpr ⟨le_top, fun k _ => (masked_least f hf r k).elim le_of_lt fun h => h.1.le⟩

/-- The signed minimum of two words, read as integers. -/
theorem toInt_minsi (a b : BitVec 32) : (IntOp.minsi a b).toInt = min a.toInt b.toInt := by
  unfold IntOp.minsi
  split <;> rename_i h
  · rw [min_eq_left]; simp [BitVec.slt] at h; omega
  · rw [min_eq_right]; simp [BitVec.slt] at h; omega

/-- A fold of the signed minimum is a word that it reaches and that nothing undercuts. -/
theorem fold_minsi_eq {ι : Type} (s : Finset ι) (g : ι → BitVec 32) (init w : BitVec 32) (hinit : w.toInt ≤ init.toInt)
    (hle : ∀ k ∈ s, w.toInt ≤ (g k).toInt) (hw : ∃ k ∈ s, g k = w) : s.fold IntOp.minsi init g = w := by
  refine BitVec.eq_of_toInt_eq ?_
  rw [← Finset.fold_hom (op' := min) (m := BitVec.toInt) toInt_minsi]
  refine le_antisymm ?_ ?_
  · obtain ⟨k, hk, e⟩ := hw
    exact (Finset.fold_min_le _).mpr (Or.inr ⟨k, hk, by rw [e]⟩)
  · exact (Finset.le_fold_min _).mpr ⟨hinit, hle⟩

/-- A word below `2 ^ 31`, read signed, is the number it was made from. -/
theorem toInt_ofNat_small (k : ℕ) (h : k < 2 ^ 31) : (BitVec.ofNat 32 k).toInt = k := by
  rw [BitVec.toInt_eq_toNat_of_lt] <;> simp only [BitVec.toNat_ofNat] <;> omega

/-- The first position that holds the least value, as a fold of the signed minimum over position words, positions that
    do not hold it standing as `N`. -/
theorem fold_first_masked (f : Fin n → EReal) (hf : ∀ k, f k < ⊤) (r : Fin n) (N : ℕ) (hN : n ≤ N) (hN' : N < 2 ^ 31)
    (init : BitVec 32) (hinit : init.toInt = 2 ^ 31 - 1) :
    Finset.univ.fold IntOp.minsi init
        (fun k : Fin n => if masked f r.val k = f (order f r) then BitVec.ofNat 32 k.val else BitVec.ofNat 32 N)
      = BitVec.ofNat 32 (order f r).val := by
  have hs : ∀ k : Fin n, (BitVec.ofNat 32 k.val).toInt = k.val := fun k => toInt_ofNat_small _ (by have := k.isLt; omega)
  have ho := (order f r).isLt
  refine fold_minsi_eq _ _ _ _ (by rw [hinit, hs]; omega) (fun k _ => ?_)
    ⟨order f r, Finset.mem_univ _, by rw [if_pos (masked_order f r)]⟩
  split <;> rename_i h
  · rw [hs, hs]
    rcases masked_least f hf r k with g | g
    · exact absurd h g.ne'
    · exact_mod_cast Fin.le_def.mp g.2
  · rw [hs, toInt_ofNat_small N hN']
    omega

end Cert.Proof.Nearest

end
-- ==== Proof.Round.lean ====
/- One round of the kernel's neighbour search, and the rounds in turn, on one block of 256 particles.

   A round takes the block's 256 × 4096 table of distances. On each row it finds the least entry and the first position
   that holds it, picks that position's coordinate out of the row of positions, and writes `⊤` over the entry. The
   theorems say what the `r`-th round finds on a row that starts as the values `f`: position `order f r` (Nearest). -/
module

public import proofs.«01_k».proof.Proof.Nearest
public import proofs.«01_k».proof.Proof.Gen.KernelIdeal.Skeleton
public import Idealize.ShloMosaic.Lib.Pointwise
public import Idealize.ShloMosaic.Lib.Pipeline.Value

@[expose] public section

noncomputable section

namespace Cert.Proof.Round

open Idealize.ShloMosaic Cert.KernelIdeal Cert.KernelIdeal.Gen Cert.Proof.Nearest

/-- The positions along a row, as words. -/
def lanes : IVec S256x4096 32 := iota .tc S256x4096 32 [1] iota_S256x4096_d1_w32

/-- The block's distances after `r` rounds. -/
def dists (D : FVec Ideal S256x4096 .f32) : ℕ → FVec Ideal S256x4096 .f32
  | 0 => D
  | r + 1 => k0_pay25 lanes (dists D r)

/-- The positions round `r` finds, one per row. -/
def found (D : FVec Ideal S256x4096 .f32) (r : ℕ) : IVec S256x1 32 := k0_pay23 lanes (dists D r)

/-- What round `r` picks out of `q`, one value per row. -/
def picked (q : FVec Ideal S1x4096 .f32) (D : FVec Ideal S256x4096 .f32) (r : ℕ) : FVec Ideal S256x1 .f32 :=
  k0_pay26 q lanes (dists D r)

/-- The float word of infinity is the largest value. -/
theorem word_top : Ideal.ofBits FTy.f32 0x7F800000#32 = ⊤ := by simp [Ideal.ofBits, Ideal.ieee]

/-- Entry `k` of a row of position numbers is the word of `k`. -/
theorem lanes_apply (p : Fin 256) (k : Fin 4096) : lanes (ix2 p k) = BitVec.ofNat 32 k.val := by
  pointwise [lanes]

/-- Two positions have the same word only if they are the same. -/
theorem position_eq (a b : Fin 4096) : IntOp.cmpi .eq (BitVec.ofNat 32 a.val) (BitVec.ofNat 32 b.val) = 1#1 ↔ a = b := by
  have ha := a.isLt
  have hb := b.isLt
  constructor
  · intro h
    by_contra hne
    have hn : BitVec.ofNat 32 a.val ≠ BitVec.ofNat 32 b.val := fun e => hne (Fin.ext (by
      have e' := congrArg BitVec.toNat e
      simp only [BitVec.toNat_ofNat] at e'
      omega))
    unfold IntOp.cmpi at h
    rw [beq_false_of_ne hn] at h
    exact absurd (show (0#1 : BitVec 1) = 1#1 from h) (by decide)
  · rintro rfl
    simp [IntOp.cmpi]

variable (D : FVec Ideal S256x4096 .f32) (f : Fin 4096 → EReal) (p : Fin 256)

/-- A table whose row `p` holds the values `f` with the first `r` positions masked: the round finds the next position. -/
theorem find_row (hf : ∀ k, f k < ⊤) (r : Fin 4096) (E : FVec Ideal S256x4096 .f32)
    (hE : ∀ k, E (ix2 p k) = masked f r.val k) :
    k0_pay23 lanes E (ix2 p 0) = BitVec.ofNat 32 (order f r).val := by
  pointwise [k0_pay23]
  simp only [hE, lanes_apply, word_top]
  rw [fold_min_masked f hf r]
  exact fold_first_masked f hf r 4096 (le_refl _) (by norm_num) _ (by decide)

/-- It masks that position. -/
theorem mask_row (hf : ∀ k, f k < ⊤) (r : Fin 4096) (E : FVec Ideal S256x4096 .f32)
    (hE : ∀ k, E (ix2 p k) = masked f r.val k) (k : Fin 4096) :
    k0_pay25 lanes E (ix2 p k) = masked f (r.val + 1) k := by
  pointwise [k0_pay25, k0_pay24]
  rw [find_row f p hf r E hE, hE, lanes_apply, word_top, masked_succ]
  exact if_congr (position_eq _ _) rfl rfl

/-- It picks that position's entry of `q`: the sum over a row that is `0` at every other position. -/
theorem pick_row (hf : ∀ k, f k < ⊤) (q : FVec Ideal S1x4096 .f32) (r : Fin 4096) (E : FVec Ideal S256x4096 .f32)
    (hE : ∀ k, E (ix2 p k) = masked f r.val k) :
    k0_pay26 q lanes E (ix2 p 0) = q (ix2 0 (order f r)) := by
  pointwise [k0_pay26, k0_pay24]
  rw [find_row f p hf r E hE]
  refine (Finset.sum_eq_single (order f r) (fun k _ hk => ?_) (fun h => absurd (Finset.mem_univ _) h)).trans ?_
  · rw [lanes_apply]
    exact if_neg fun h => hk ((position_eq _ _).mp h)
  · rw [lanes_apply]
    exact if_pos ((position_eq _ _).mpr rfl)

/-- Row `p` of the distances after `r` rounds. -/
theorem dists_row (hf : ∀ k, f k < ⊤) (hD : ∀ k, D (ix2 p k) = f k) (r : ℕ) (hr : r ≤ 4096) (k : Fin 4096) :
    dists D r (ix2 p k) = masked f r k := by
  induction r generalizing k with
  | zero => rw [masked_zero]; exact hD k
  | succ r ih => exact mask_row f p hf ⟨r, hr⟩ _ (ih (Nat.le_of_succ_le hr)) k

/-- The `r`-th round finds position `order f r`. -/
theorem found_row (hf : ∀ k, f k < ⊤) (hD : ∀ k, D (ix2 p k) = f k) (r : Fin 4096) :
    found D r.val (ix2 p 0) = BitVec.ofNat 32 (order f r).val :=
  find_row f p hf r _ (dists_row D f p hf hD r.val r.isLt.le)

/-- The `r`-th round picks the coordinate at position `order f r`. -/
theorem picked_row (hf : ∀ k, f k < ⊤) (hD : ∀ k, D (ix2 p k) = f k) (q : FVec Ideal S1x4096 .f32) (r : Fin 4096) :
    picked q D r.val (ix2 p 0) = q (ix2 0 (order f r)) :=
  pick_row f p hf q r _ (dists_row D f p hf hD r.val r.isLt.le)

/-- Sixteen columns side by side. -/
def columns {α : Type} (c : ℕ → S256x1.Idx → α) : S256x16.Idx → α :=
  concatenate S256x16 1 (List.ofFn fun j : Fin 16 => (⟨S256x1, c j.val⟩ : (s : Shape) × (s.Idx → α)))
    concatenates_S256x1_S256x1_S256x1_S256x1_S256x1_S256x1_S256x1_S256x1_S256x1_S256x1_S256x1_S256x1_S256x1_S256x1_S256x1_S256x1_S256x16_d1

/-- Entry `j` of sixteen columns side by side is the `j`-th column's entry. -/
theorem columns_apply {α : Type} (c : ℕ → S256x1.Idx → α) (j : Fin 16) : columns c (ix2 p j) = c j.val (ix2 p 0) := by
  unfold columns
  refine concatenate_ofFn_apply (t := S256x16) (s₁ := S256x1) (1 : Fin 2) (fun j : Fin 16 => c j.val) _ rfl 1 rfl (ix2 p j) j ?_ (ix2 p 0) ?_ ?_
  · exact Nat.div_one _
  · exact (Nat.mod_one _).symm
  · intro b hb
    match b, hb with
    | 0, _ => rfl
    | 1, hb => exact absurd rfl hb

end Cert.Proof.Round

end
-- ==== Proof.Spec.lean ====
/- What both programs compute, as functions of the arguments: `x` the positions (particle, time step, coordinate), `τ`
   the particles' types, `e` the embedding table. -/
module

public import proofs.«01_k».proof.Proof.Nearest
public import Idealize.ShloMosaic.Lib.Pointwise

@[expose] public section

noncomputable section

namespace Cert.Proof.Spec

open Idealize.ShloMosaic Cert.Proof.Nearest

/-- The positions' indices: particle, time step, coordinate. -/
abbrev Track : Shape := ⟨3, ![4096, 6, 3]⟩
/-- The embedding table's indices: type, entry. -/
abbrev Table : Shape := ⟨2, ![9, 16]⟩

/-- The connectivity radius: its float word's value, as for the two constants below. -/
def radius : EReal := Ideal.ofBits FTy.f32 0x3C75C28F#32
/-- The constant under the square root. -/
def guard : EReal := Ideal.ofBits FTy.f32 0x2B8CBCCC#32
/-- The two in the distance. -/
def two : EReal := Ideal.ofBits FTy.f32 0x40000000#32

variable (x : Track.Idx → EReal)

/-- The squared distance of the most recent positions of two particles, as both programs form it: the sum of the two
    squared lengths less twice the inner product. -/
def gap (a b : Fin 4096) : EReal :=
  (x (ix3 a 5 0) * x (ix3 a 5 0) + x (ix3 a 5 1) * x (ix3 a 5 1) + x (ix3 a 5 2) * x (ix3 a 5 2)
    + (x (ix3 b 5 0) * x (ix3 b 5 0) + x (ix3 b 5 1) * x (ix3 b 5 1) + x (ix3 b 5 2) * x (ix3 b 5 2)))
    - two * (x (ix3 a 5 0) * x (ix3 b 5 0) + x (ix3 a 5 1) * x (ix3 b 5 1) + x (ix3 a 5 2) * x (ix3 b 5 2))

/-- The `j`-th nearest neighbour of particle `a`, nearest first, the lower particle where two are equally near. -/
def near (a : Fin 4096) (j : Fin 16) : Fin 4096 := order (gap x a) ⟨j.val, by omega⟩

/-- The displacement to that neighbour along coordinate `k`, in units of the radius. -/
def disp (a : Fin 4096) (j : Fin 16) (k : Fin 3) : EReal :=
  Ideal.div (x (ix3 (near x a j) 5 k) - x (ix3 a 5 k)) radius

/-- That displacement's length. -/
def len (a : Fin 4096) (j : Fin 16) : EReal :=
  Ideal.sqrt (disp x a j 0 * disp x a j 0 + disp x a j 1 * disp x a j 1 + disp x a j 2 * disp x a j 2 + guard)

/-- The node features: five velocities, six distances to the walls clipped to one radius, the type's embedding. -/
def node (τ : Fin 4096 → Fin 9) (e : Table.Idx → EReal) (a : Fin 4096) (c : Fin 37) : EReal :=
  if h : c.val < 15 then
    x (ix3 a ⟨1 + c.val / 3, by omega⟩ ⟨c.val % 3, by omega⟩) - x (ix3 a ⟨c.val / 3, by omega⟩ ⟨c.val % 3, by omega⟩)
  else if h' : c.val - 15 < 6 then
    min 1 (max (Ideal.ofBits FTy.f32 0xBF800000#32)
      (Ideal.div (if h'' : c.val - 15 < 3 then x (ix3 a 5 ⟨c.val - 15, h''⟩) else 1 - x (ix3 a 5 ⟨c.val - 15 - 3, by omega⟩))
        radius))
  else e (ix2 (τ a) ⟨c.val - 15 - 6, by omega⟩)

/-- The edge index: senders in the first row, receivers in the second, edge `16 a + j` going to particle `a`. -/
def edgeIndex (s : Fin 2) (k : Fin 65536) : BitVec 32 :=
  if s.val < 1 then BitVec.ofNat 32 (near x ⟨k.val / 16, by omega⟩ ⟨k.val % 16, by omega⟩).val else BitVec.ofNat 32 (k.val / 16)

/-- The edge features: the three displacements, then the length. -/
def edge (k : Fin 65536) (c : Fin 4) : EReal :=
  if h : c.val < 3 then disp x ⟨k.val / 16, by omega⟩ ⟨k.val % 16, by omega⟩ ⟨c.val, h⟩
  else len x ⟨k.val / 16, by omega⟩ ⟨k.val % 16, by omega⟩

/-- That word's value is the number two. -/
theorem two_eq : two = ((2 : ℝ) : EReal) := by
  unfold two
  simp [Ideal.ofBits, Ideal.ieee, -EReal.coe_mul]
  norm_num

/-- Finite positions are finitely far apart. -/
theorem gap_lt_top (hx : ∀ a k, x (ix3 a 5 k) ≠ ⊤ ∧ x (ix3 a 5 k) ≠ ⊥) (a b : Fin 4096) : gap x a b < ⊤ := by
  have hr : ∀ a k, ∃ r : ℝ, x (ix3 a 5 k) = (r : EReal) := fun a k =>
    ⟨_, (EReal.coe_toReal (hx a k).1 (hx a k).2).symm⟩
  unfold gap
  rw [two_eq]
  obtain ⟨a0, e0⟩ := hr a 0
  obtain ⟨a1, e1⟩ := hr a 1
  obtain ⟨a2, e2⟩ := hr a 2
  obtain ⟨b0, f0⟩ := hr b 0
  obtain ⟨b1, f1⟩ := hr b 1
  obtain ⟨b2, f2⟩ := hr b 2
  rw [e0, e1, e2, f0, f1, f2]
  exact_mod_cast EReal.coe_lt_top _

end Cert.Proof.Spec

end
-- ==== Proof.Block.lean ====
/- What one grid step leaves in each output block, read at an index of the block.

   A step reads `x0` (256 rows of 18 numbers: six positions of three coordinates), `x1` (the most recent positions of
   all 4096 particles, one coordinate per row), `x2` (256 types) and `x3` (the table). The theorems take the row's
   particle `a` and say what the blocks hold there. -/
module

public import proofs.«01_k».proof.Proof.Round
public import proofs.«01_k».proof.Proof.Spec
public import proofs.«01_k».proof.Proof.Gen.KernelIdeal.Frame
public import Idealize.ShloMosaic.Lib.Pipeline.ValueKit

@[expose] public section

set_option maxRecDepth 16384

noncomputable section

namespace Cert.Proof.Block

open Idealize.ShloMosaic Cert.KernelIdeal Cert.KernelIdeal.Gen Cert.Proof.Nearest Cert.Proof.Round Cert.Proof.Spec

variable (i : grid0.Coords) (x0 : Vec Ideal S256x18 .f32) (x1 : Vec Ideal S8x4096 .f32) (x2 : Vec Ideal S256x1 .i32)
  (x3 : Vec Ideal S9x16 .f32)

/-- The offset of a store of a whole block is zero on both axes. -/
theorem origin : (![0, 0] : Fin 2 → ℕ) = fun _ => 0 := by decide

/-- A block of 256 rows of 16, stored whole, holds what was stored. -/
theorem whole16 {e : EltTy} (w : Vec Ideal S256x16 e) : View.canon [(⟨r0_4, w⟩ : View.Piece (Elt Ideal) S256x16 e)] = w :=
  View.canon_unit_zero origin _ w

/-- The block's distances. -/
abbrev start : FVec Ideal S256x4096 .f32 := k0_pay129 i x0 x1 x2 x3

/-- The sender block: the positions the rounds find. -/
theorem senders_eq : out0_5 i x0 x1 x2 x3 = columns fun r => found (start i x0 x1 x2 x3) r :=
  whole16 (e := .i32) _

/-- The neighbours' second coordinates: what the rounds pick out of that row of positions. -/
theorem ys_eq : k0_pay146 i x0 x1 x2 x3 = columns fun r => picked (k0_pay127 i x0 x1 x2 x3) (start i x0 x1 x2 x3) r := rfl

/-- Their third coordinates. -/
theorem zs_eq : k0_pay147 i x0 x1 x2 x3 = columns fun r => picked (k0_pay128 i x0 x1 x2 x3) (start i x0 x1 x2 x3) r := rfl

/-- The displacement along the first coordinate: what the rounds pick out of that row of positions, less the row's own. -/
theorem dx_eq : k0_pay148 i x0 x1 x2 x3 = divf (subf (columns fun r => picked (k0_pay126 i x0 x1 x2 x3) (start i x0 x1 x2 x3) r)
    (broadcastTo S256x16 (k0_pay3 (View.ld x0 r0_0)) broadcasts_S256x1_S256x16))
    (broadcast S256x16 (Scalar.ofBits .f32 0x3C75C28F#32)) := rfl

/-- What a step reads, for the rows of the particles `a p`: their six positions, and everyone's most recent one. -/
structure Reads (x : Track.Idx → EReal) (a : Fin 256 → Fin 4096) : Prop where
  rows : ∀ (p : Fin 256) (c : Fin 18), x0 (ix2 p c) = x (ix3 (a p) ⟨c.val / 3, by omega⟩ ⟨c.val % 3, by omega⟩)
  all0 : ∀ b : Fin 4096, x1 (ix2 0 b) = x (ix3 b 5 0)
  all1 : ∀ b : Fin 4096, x1 (ix2 1 b) = x (ix3 b 5 1)
  all2 : ∀ b : Fin 4096, x1 (ix2 2 b) = x (ix3 b 5 2)
  finite : ∀ a k, x (ix3 a 5 k) ≠ ⊤ ∧ x (ix3 a 5 k) ≠ ⊥

variable {x0 x1} {x : Track.Idx → EReal} {a : Fin 256 → Fin 4096} (h : Reads x0 x1 x a) (p : Fin 256) (j : Fin 16)
include h

/-- Number `3 s + k` of a row is coordinate `k` of position `s`. -/
theorem row_at (c : Fin 18) (s : Fin 6) (k : Fin 3) (e : c.val = 3 * s.val + k.val) :
    x0 (ix2 p c) = x (ix3 (a p) s k) := by
  have hs : (⟨c.val / 3, by omega⟩ : Fin 6) = s := Fin.ext (by show c.val / 3 = s.val; omega)
  have hk : (⟨c.val % 3, by omega⟩ : Fin 3) = k := Fin.ext (by show c.val % 3 = k.val; omega)
  rw [h.rows, hs, hk]

/-- The table the first round starts from holds the squared distances. -/
theorem start_apply (b : Fin 4096) : start i x0 x1 x2 x3 (ix2 p b) = gap x (a p) b := by
  pointwise [start, k0_pay129, k0_pay9, k0_pay2, k0_pay3, k0_pay4, k0_pay5, k0_pay6, k0_pay7, k0_pay8]
  unfold gap two
  rw [row_at h p 15 5 0 rfl, row_at h p 16 5 1 rfl, row_at h p 17 5 2 rfl, h.all0, h.all1, h.all2]

/-- What the rounds pick out of a row of numbers is the neighbours' entries of it. -/
theorem picked_apply (q : FVec Ideal S1x4096 .f32) :
    columns (fun r => picked q (start i x0 x1 x2 x3) r) (ix2 p j) = q (ix2 0 (near x (a p) j)) :=
  (columns_apply p _ j).trans (picked_row _ _ p (gap_lt_top x h.finite (a p)) (start_apply i x2 x3 h p) q ⟨j.val, by omega⟩)

/-- The sender block holds the neighbours, nearest first. -/
theorem senders_apply : out0_5 i x0 x1 x2 x3 (ix2 p j) = BitVec.ofNat 32 (near x (a p) j).val := by
  rw [senders_eq]
  exact (columns_apply p _ j).trans
    (found_row _ _ p (gap_lt_top x h.finite (a p)) (start_apply i x2 x3 h p) ⟨j.val, by omega⟩)

/-- Entry `j` of a row of first displacements. -/
theorem dx_apply : k0_pay148 i x0 x1 x2 x3 (ix2 p j) = disp x (a p) j 0 := by
  rw [dx_eq]
  pointwise [k0_pay3, k0_pay2]
  rw [picked_apply i x2 x3 h p j, row_at h p 15 5 0 rfl]
  pointwise [k0_pay126, k0_pay6]
  rw [h.all0]
  rfl

/-- Entry `j` of a row of second displacements. -/
theorem dy_apply : k0_pay116 (k0_pay124 i x0 x1 x2 x3) (k0_pay146 i x0 x1 x2 x3) (ix2 p j) = disp x (a p) j 1 := by
  rw [ys_eq]
  pointwise [k0_pay116, k0_pay124, k0_pay4, k0_pay2]
  rw [picked_apply i x2 x3 h p j, row_at h p 16 5 1 rfl]
  pointwise [k0_pay127, k0_pay7]
  rw [h.all1]
  rfl

/-- Entry `j` of a row of third displacements. -/
theorem dz_apply : k0_pay117 (k0_pay125 i x0 x1 x2 x3) (k0_pay147 i x0 x1 x2 x3) (ix2 p j) = disp x (a p) j 2 := by
  rw [zs_eq]
  pointwise [k0_pay117, k0_pay125, k0_pay5, k0_pay2]
  rw [picked_apply i x2 x3 h p j, row_at h p 17 5 2 rfl]
  pointwise [k0_pay128, k0_pay8]
  rw [h.all2]
  rfl

/-- The block of first displacements. -/
theorem out_dx_apply : out0_7 i x0 x1 x2 x3 (ix2 p j) = disp x (a p) j 0 :=
  (congrFun (whole16 (e := .f32) (k0_pay148 i x0 x1 x2 x3)) _).trans (dx_apply i x2 x3 h p j)

/-- The block of second displacements. -/
theorem out_dy_apply : out0_8 i x0 x1 x2 x3 (ix2 p j) = disp x (a p) j 1 :=
  (congrFun (whole16 (e := .f32) (k0_pay116 (k0_pay124 i x0 x1 x2 x3) (k0_pay146 i x0 x1 x2 x3))) _).trans (dy_apply i x2 x3 h p j)

/-- The block of third displacements. -/
theorem out_dz_apply : out0_9 i x0 x1 x2 x3 (ix2 p j) = disp x (a p) j 2 :=
  (congrFun (whole16 (e := .f32) (k0_pay117 (k0_pay125 i x0 x1 x2 x3) (k0_pay147 i x0 x1 x2 x3))) _).trans (dz_apply i x2 x3 h p j)

/-- The length block. -/
theorem out_len_apply : out0_10 i x0 x1 x2 x3 (ix2 p j) = len x (a p) j := by
  refine (congrFun (whole16 (e := .f32) (k0_pay118 (k0_pay124 i x0 x1 x2 x3) (k0_pay125 i x0 x1 x2 x3)
    (k0_pay146 i x0 x1 x2 x3) (k0_pay147 i x0 x1 x2 x3) (k0_pay148 i x0 x1 x2 x3))) _).trans ?_
  pointwise [k0_pay118]
  rw [dx_apply i x2 x3 h p j, dy_apply i x2 x3 h p j, dz_apply i x2 x3 h p j]
  rfl

omit h in
/-- The receiver block: the row's particle, `256` rows to a step. -/
theorem receivers_apply (hi : (i 0).val < 16) :
    out0_6 (F := Ideal) i x0 x1 x2 x3 (ix2 p j) = BitVec.ofNat 32 (256 * (i 0).val + p.val) := by
  refine (congrFun (whole16 (e := .i32) (k0_pay112 (BitVec.ofNat 32 (i 0).val))) _).trans ?_
  pointwise [k0_pay112]
  refine BitVec.eq_of_toNat_eq ?_
  have hp := p.isLt
  simp only [Scalar.muli, IntOp.muli, IntOp.addi, BitVec.toNat_add, BitVec.toNat_mul, BitVec.toNat_ofNat]
  omega

omit h in
/-- Choosing a row of the table by nine comparisons in turn chooses the type's row. -/
theorem choose_row (t : Fin 9) (r : Fin 9 → EReal) :
    Scalar.select (IntOp.cmpi .eq (BitVec.ofNat 32 t.val) 8#32) (r 8)
      (Scalar.select (IntOp.cmpi .eq (BitVec.ofNat 32 t.val) 7#32) (r 7)
      (Scalar.select (IntOp.cmpi .eq (BitVec.ofNat 32 t.val) 6#32) (r 6)
      (Scalar.select (IntOp.cmpi .eq (BitVec.ofNat 32 t.val) 5#32) (r 5)
      (Scalar.select (IntOp.cmpi .eq (BitVec.ofNat 32 t.val) 4#32) (r 4)
      (Scalar.select (IntOp.cmpi .eq (BitVec.ofNat 32 t.val) 3#32) (r 3)
      (Scalar.select (IntOp.cmpi .eq (BitVec.ofNat 32 t.val) 2#32) (r 2)
      (Scalar.select (IntOp.cmpi .eq (BitVec.ofNat 32 t.val) 1#32) (r 1)
      (Scalar.select (IntOp.cmpi .eq (BitVec.ofNat 32 t.val) 0#32) (r 0) 0)))))))) = r t := by
  fin_cases t <;> rfl

omit h in
/-- A velocity: the position one step on less the position. -/
theorem velocity_apply (v : FVec Ideal S256x18 .f32) (c : Fin 15) :
    k0_pay119 v (ix2 p c) = v (ix2 p ⟨3 + c.val, by omega⟩) - v (ix2 p ⟨c.val, by omega⟩) := by
  pointwise [k0_pay119]

omit h in
/-- A distance to a wall, clipped to one radius. -/
theorem wall_apply (v : FVec Ideal S256x18 .f32) (c : Fin 6) :
    k0_pay120 v (ix2 p c) = min 1 (max (Ideal.ofBits FTy.f32 0xBF800000#32)
      (Ideal.div (if h : c.val < 3 then v (ix2 p ⟨15 + c.val, by omega⟩) else 1 - v (ix2 p ⟨15 + (c.val - 3), by omega⟩)) radius)) := by
  pointwise [k0_pay120]
  rfl

omit h in
/-- The type's row of the table. -/
theorem row_apply (v : IVec S256x1 32) (t : Fin 9) (ht : v (ix2 p 0) = BitVec.ofNat 32 t.val) (x3 : Vec Ideal S9x16 .f32) (c : Fin 16) :
    Scalar.select (IntOp.cmpi .eq (v (ix2 p 0)) 8#32) (x3 (ix2 8 c))
      (Scalar.select (IntOp.cmpi .eq (v (ix2 p 0)) 7#32) (x3 (ix2 7 c))
      (Scalar.select (IntOp.cmpi .eq (v (ix2 p 0)) 6#32) (x3 (ix2 6 c))
      (Scalar.select (IntOp.cmpi .eq (v (ix2 p 0)) 5#32) (x3 (ix2 5 c))
        (k0_pay122 v (Scalar.ofBits .f32 0x00000000#32) (View.ld x3 r0_6) (View.ld x3 r0_7) (View.ld x3 r0_8)
          (View.ld x3 r0_9) (View.ld x3 r0_10) (ix2 p c))))) = x3 (ix2 t c) := by
  pointwise [k0_pay122]
  rw [ht]
  exact choose_row t fun t => x3 (ix2 t c)

omit h in
/-- A row of the node block side by side: velocities, walls, the type's row. -/
theorem side_by_side (u : FVec Ideal S256x15 .f32) (w : FVec Ideal S256x6 .f32) (v : IVec S256x1 32) (e : FVec Ideal S256x16 .f32)
    (x3 : Vec Ideal S9x16 .f32) (c : Fin 37) :
    k0_pay1 u w v e (View.ld x3 r0_11) 5#32 (View.ld x3 r0_12) (View.ld x3 r0_13) (View.ld x3 r0_14) (ix2 p c)
      = if h : c.val < 15 then u (ix2 p ⟨c.val, h⟩) else if h' : c.val - 15 < 6 then w (ix2 p ⟨c.val - 15, h'⟩)
        else Scalar.select (IntOp.cmpi .eq (v (ix2 p 0)) 8#32) (x3 (ix2 8 ⟨c.val - 15 - 6, by omega⟩))
          (Scalar.select (IntOp.cmpi .eq (v (ix2 p 0)) 7#32) (x3 (ix2 7 ⟨c.val - 15 - 6, by omega⟩))
          (Scalar.select (IntOp.cmpi .eq (v (ix2 p 0)) 6#32) (x3 (ix2 6 ⟨c.val - 15 - 6, by omega⟩))
          (Scalar.select (IntOp.cmpi .eq (v (ix2 p 0)) 5#32) (x3 (ix2 5 ⟨c.val - 15 - 6, by omega⟩))
            (e (ix2 p ⟨c.val - 15 - 6, by omega⟩))))) := by
  pointwise [k0_pay1]

omit h in
/-- Loading a block whole reads the block. -/
theorem rows_apply (c : Fin 18) : k0_pay123 i x0 x1 x2 x3 (ix2 p c) = x0 (ix2 p c) := by
  pointwise [k0_pay123, k0_pay2]

omit h in
/-- The types a step compares are those of its input block. -/
theorem types_apply : k0_pay149 i x0 x1 x2 x3 (ix2 p 0) = x2 (ix2 p 0) := by
  pointwise [k0_pay149, k0_pay121]

/-- The node block. -/
theorem node_apply (τ : Fin 4096 → Fin 9) (hτ : x2 (ix2 p 0) = BitVec.ofNat 32 (τ (a p)).val) (c : Fin 37) :
    out0_4 i x0 x1 x2 x3 (ix2 p c) = node x τ x3 (a p) c := by
  unfold out0_4
  refine (congrFun (View.canon_unit_zero (S := S256x37) origin _ _) _).trans ((side_by_side p _ _ _ _ x3 c).trans ?_)
  unfold node
  have hc := c.isLt
  by_cases h1 : c.val < 15
  · rw [dif_pos h1, dif_pos h1, velocity_apply, rows_apply, rows_apply]
    exact congrArg₂ (fun u v : EReal => u - v)
      (row_at h p ⟨3 + c.val, by omega⟩ ⟨1 + c.val / 3, by omega⟩ ⟨c.val % 3, by omega⟩ (by show 3 + c.val = 3 * (1 + c.val / 3) + c.val % 3; omega))
      (row_at h p ⟨c.val, by omega⟩ ⟨c.val / 3, by omega⟩ ⟨c.val % 3, by omega⟩ (by show c.val = 3 * (c.val / 3) + c.val % 3; omega))
  rw [dif_neg h1, dif_neg h1]
  by_cases h2 : c.val - 15 < 6
  · rw [dif_pos h2, dif_pos h2, wall_apply]
    by_cases h3 : c.val - 15 < 3
    · rw [dif_pos h3, dif_pos h3, rows_apply, row_at h p ⟨15 + (c.val - 15), by omega⟩ 5 ⟨c.val - 15, h3⟩
        (by show 15 + (c.val - 15) = 3 * 5 + (c.val - 15); omega)]
    · rw [dif_neg h3, dif_neg h3, rows_apply, row_at h p ⟨15 + (c.val - 15 - 3), by omega⟩ 5 ⟨c.val - 15 - 3, by omega⟩
        (by show 15 + (c.val - 15 - 3) = 3 * 5 + (c.val - 15 - 3); omega)]
  · rw [dif_neg h2, dif_neg h2]
    exact row_apply p _ (τ (a p)) ((types_apply i x2 x3 p).trans hτ) x3 _

end Cert.Proof.Block

end
-- ==== Proof.Entry.lean ====
/- What the kernel's host operations put into the arrays the grid reads: the six positions of a particle in a row, the
   most recent positions of all particles with a coordinate to a row, and the types in a column. -/
module

public import proofs.«01_k».proof.Proof.Gen.KernelIdeal.Frame
public import Idealize.ShloMosaic.Lib.Pipeline.ValueKit
public import Idealize.ShloMosaic.Lib.Pointwise
public import Idealize.ShloMosaic.Lib.Routing.OpsSet
public import Idealize.ShloMosaic.Lib.Routing.OpsPair

@[expose] public section

set_option maxRecDepth 16384

noncomputable section

namespace Cert.Proof.Entry

open Idealize.ShloMosaic Idealize.ShloMosaic.TcCoe Idealize.ShloMosaic.Routing Cert.KernelIdeal Cert.KernelIdeal.Gen

variable (m : (ℓ : Loc nD τ sig) → Buf (Elt Ideal) ℓ) (c : Dev nD)

/-- The positions, as the kernel is given them. -/
abbrev pos : Vec Ideal S4096x6x3 .f32 := m ((c : Thread nD τ).loc main_arg0)

/-- The types, as the kernel is given them. -/
abbrev typ : Vec Ideal S4096 .i32 := m ((c : Thread nD τ).loc main_arg1)

/-- The rows of positions: the argument reshaped. -/
def rows (x : Vec Ideal S4096x6x3 .f32) : Vec Ideal S4096x18 .f32 := shapeCast S4096x18 x shapeCasts_S4096x6x3_S4096x18

/-- The most recent positions, a coordinate to a row: written over the first three rows of an array of zeros. -/
def latest (x : Vec Ideal S4096x6x3 .f32) : Vec Ideal S8x4096 .f32 :=
  Host.scatter scatter_S8x4096_S1_S3x4096_01_n_0_0 (fun _ b => b)
    (broadcastInDim S8x4096 ![] bcast_S_S8x4096 (constant (F := Ideal) S_ .f32 0x00000000#32))
    (broadcastInDim S1 ![] bcast_S_S1 (constantI S_ 32 0#32))
    (transpose S3x4096 [1, 0] (shapeCast S4096x3 (extractStridedSlice S4096x1x3 ![0, 5, 0] x slices_S4096x6x3_S4096x1x3_0_5_0)
      shapeCasts_S4096x1x3_S4096x3) transposes_S4096x3_S3x4096_1_0)

/-- The column of types. -/
def column (t : Vec Ideal S4096 .i32) : Vec Ideal S4096x1 .i32 := shapeCast S4096x1 t shapeCasts_S4096_S4096x1

/-- The grid's first input holds the positions of a particle in a row. -/
theorem V_rows : V m c main_v0 = rows (pos m c) := by
  unfold V V0
  simp only [List.flatten_cons, List.flatten_nil, List.append_nil]
  after_results
  rfl

/-- The grid's second input holds the most recent positions, a coordinate to a row. -/
theorem V_latest : V m c main_v6 = latest (pos m c) := by
  unfold V V0
  simp only [List.flatten_cons, List.flatten_nil, List.append_nil]
  after_results
  rfl

/-- The grid's third input holds the types in a column. -/
theorem V_column : V m c main_v7 = column (typ m c) := by
  unfold V V0
  simp only [List.flatten_cons, List.flatten_nil, List.append_nil]
  after_results
  rfl

/-- Entry `k` of a particle's row is coordinate `k % 3` of position `k / 3`. -/
theorem rows_apply (x : Vec Ideal S4096x6x3 .f32) (a : Fin 4096) (k : Fin 18) :
    rows x (ix2 a k) = x (ix3 a ⟨k.val / 3, by omega⟩ ⟨k.val % 3, by omega⟩) := by
  pointwise [rows]

/-- Entry `a` of the column is the type of particle `a`. -/
theorem column_apply (t : Vec Ideal S4096 .i32) (a : Fin 4096) : column t (ix2 a 0) = t (ix1 a) := by
  pointwise [column]

/-- The three rows the host writes. -/
theorem latest_apply (x : Vec Ideal S4096x6x3 .f32) (k : Fin 3) (b : Fin 4096) (r : Fin 8) (hr : r.val = k.val) :
    latest x (ix2 r b) = x (ix3 b 5 k) := by
  have key : ∀ (q : S3x4096.Idx) (i : S8x4096.Idx), scatter_S8x4096_S1_S3x4096_01_n_0_0.resultIdx? q
      (broadcastInDim S1 ![] bcast_S_S1 (constantI S_ 32 0#32)) = some i ↔ (q 0).val = (i 0).val ∧ (q 1).val = (i 1).val := by
    intro q i
    rw [resultIdx?_eq_some]
    have e0 : scatter_S8x4096_S1_S3x4096_01_n_0_0.start q (broadcastInDim S1 ![] bcast_S_S1 (constantI S_ 32 0#32)) 0 = 0 := rfl
    have e1 : scatter_S8x4096_S1_S3x4096_01_n_0_0.start q (broadcastInDim S1 ![] bcast_S_S1 (constantI S_ 32 0#32)) 1 = 0 := rfl
    have w0 : scatter_S8x4096_S1_S3x4096_01_n_0_0.window q 0 = (q 0).val := rfl
    have w1 : scatter_S8x4096_S1_S3x4096_01_n_0_0.window q 1 = (q 1).val := rfl
    constructor
    · intro e
      have h0 := e 0
      have h1 := e 1
      rw [e0, w0] at h0
      rw [e1, w1] at h1
      exact ⟨by omega, by omega⟩
    · rintro ⟨h0, h1⟩ a
      match a with
      | ⟨0, _⟩ => exact (congrArg₂ (fun u v : ℤ => u + v) e0 (congrArg Nat.cast w0)).trans ((zero_add _).trans (congrArg Nat.cast h0))
      | ⟨1, _⟩ => exact (congrArg₂ (fun u v : ℤ => u + v) e1 (congrArg Nat.cast w1)).trans ((zero_add _).trans (congrArg Nat.cast h1))
  have hit : ∀ q : S3x4096.Idx, (q 0).val = k.val → (q 1).val = b.val → q = ix2 k b := fun q h0 h1 => by
    funext d
    match d with
    | ⟨0, _⟩ => exact Fin.ext h0
    | ⟨1, _⟩ => exact Fin.ext h1
  unfold latest
  refine scatter_set_hit _ _ _ _ _ _ (fun q hq => ?_) (ix2 k b) ((key _ _).2 ⟨hr.symm, rfl⟩)
  obtain ⟨h0, h1⟩ := (key _ _).1 hq
  rw [hit q (h0.trans hr) h1]
  pointwise []

end Cert.Proof.Entry

end
-- ==== Proof.Arrays.lean ====
/- What the kernel's seven result arrays hold after the grid: step `t` writes the rows of particles `256 t … 256 t + 255`,
   and the sixteen steps cover every array. -/
module

public import proofs.«01_k».proof.Proof.Block
public import proofs.«01_k».proof.Proof.Entry

@[expose] public section

set_option maxRecDepth 16384

noncomputable section

namespace Cert.Proof.Arrays

open Idealize.ShloMosaic Idealize.ShloMosaic.TcCoe Cert.KernelIdeal Cert.KernelIdeal.Gen Cert.Proof.Spec Cert.Proof.Entry Cert.Proof.Block

variable (m : (ℓ : Loc nD τ sig) → Buf (Elt Ideal) ℓ) (c : Dev nD)

/-- Every window over particles takes block `t` at step `t`; the positions of all particles and the table are one block. -/
theorem blocks : ∀ t : Fin cfg0.N, (grid0.coords t 0).val < 16 ∧ win0_0.index t = ![(grid0.coords t 0).val, 0] ∧ win0_1.index t = ![0, 0]
    ∧ win0_2.index t = ![(grid0.coords t 0).val, 0] ∧ win0_3.index t = ![0, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] ∧ win0_8.index t = ![(grid0.coords t 0).val, 0]
    ∧ win0_9.index t = ![(grid0.coords t 0).val, 0] ∧ win0_10.index t = ![(grid0.coords t 0).val, 0] :=
  (by decide +kernel : ∀ t : Fin grid0.N, _)

/-- The particle of row `p` of step `t`. -/
def particle (t : Fin cfg0.N) (p : Fin 256) : Fin 4096 := ⟨256 * (grid0.coords t 0).val + p.val, by have := (blocks t).1; omega⟩

/-- An index of a block is a row and a column. -/
theorem split_index {R C : ℕ} (y : (⟨2, ![R, C]⟩ : Shape).Idx) : ∃ (p : Fin R) (k : Fin C), y = ix2 p k :=
  ⟨y 0, y 1, funext fun a => match a with
    | ⟨0, _⟩ => rfl
    | ⟨1, _⟩ => rfl⟩

/-- The embedding table, which no host operation touches. -/
abbrev table : Vec Ideal S9x16 .f32 := m ((c : Thread nD Cert.KernelIdeal.τ).loc main_arg2)

/-- Row `p` of a step's block of position rows is the row of the particle it is about. -/
theorem part_rows (A : Vec Ideal S4096x18 .f32) (t : Fin cfg0.N) (p : Fin 256) (k : Fin 18) :
    (win0_0.blk t).view.read (Elt Ideal) A (ix2 p k) = A (ix2 (particle t p) k) :=
  congrArg A (show (win0_0.blk t).view.emb (ix2 p k) = ix2 (particle t p) k by unfold particle; blk_ext [(blocks t).2.1])

/-- Every step's second input block is the whole table of most recent positions. -/
theorem part_latest (A : Vec Ideal S8x4096 .f32) (t : Fin cfg0.N) (r : Fin 8) (b : Fin 4096) :
    (win0_1.blk t).view.read (Elt Ideal) A (ix2 r b) = A (ix2 r b) :=
  congrArg A (show (win0_1.blk t).view.emb (ix2 r b) = ix2 r b by blk_ext [(blocks t).2.2.1])

/-- Row `p` of a step's block of types is the row of the particle it is about. -/
theorem part_types (A : Vec Ideal S4096x1 .i32) (t : Fin cfg0.N) (p : Fin 256) :
    (win0_2.blk t).view.read (Elt Ideal) A (ix2 p 0) = A (ix2 (particle t p) 0) :=
  congrArg A (show (win0_2.blk t).view.emb (ix2 p 0) = ix2 (particle t p) 0 by unfold particle; blk_ext [(blocks t).2.2.2.1])

/-- Every step's block of the embedding table is the whole table. -/
theorem part_table (A : Vec Ideal S9x16 .f32) (t : Fin cfg0.N) : (win0_3.blk t).view.read (Elt Ideal) A = A := by
  funext z
  exact congrArg A (show (win0_3.blk t).view.emb z = z by blk_ext [(blocks t).2.2.2.2.1])

/-- The blocks a step reads, as parts of the host's arrays. -/
theorem block_rows (t : Fin cfg0.N) (p : Fin 256) (k : Fin 18) :
    iblk m c 0 t (ix2 p k) = rows (pos m c) (ix2 (particle t p) k) :=
  (part_rows (V m c main_v0) t p k).trans (congrFun (V_rows m c) _)

/-- What a step reads of the most recent positions. -/
theorem block_latest (t : Fin cfg0.N) (r : Fin 8) (b : Fin 4096) : iblk m c 1 t (ix2 r b) = latest (pos m c) (ix2 r b) :=
  (part_latest (V m c main_v6) t r b).trans (congrFun (V_latest m c) _)

/-- What a step reads of the types. -/
theorem block_types (t : Fin cfg0.N) (p : Fin 256) : iblk m c 2 t (ix2 p 0) = column (typ m c) (ix2 (particle t p) 0) :=
  (part_types (V m c main_v7) t p).trans (congrFun (V_column m c) _)

/-- What a step reads of the embedding table. -/
theorem block_table (t : Fin cfg0.N) : iblk m c 3 t = table m c :=
  (part_table (V m c main_arg2) t).trans (V_main_arg2 m c)

/-- An array whose part at every step is what the step leaves in its block is the result. -/
theorem whole4 (G : Vec Ideal S4096x37 .f32) (h : ∀ (t : Fin cfg0.N) (p : Fin 256) (k : Fin 37),
    out0_4 (grid0.coords t) (iblk m c 0 t) (iblk m c 1 t) (iblk m c 2 t) (iblk m c 3 t) (ix2 p k) = G (ix2 (particle t p) k)) :
    (dats m 0 c).arrAt 4 cfg0.N = G := by
  refine (dats m 0 c).arrAt_eq_of_covers 4 _ (by decide +kernel) fun t hf y => ?_
  obtain ⟨p, k, rfl⟩ := split_index y
  blk_simp
  rw [after0_4]
  exact (h t p k).trans (congrArg G (show ix2 (particle t p) k = (win0_4.blk t).view.emb (ix2 p k) by unfold particle; blk_ext [(blocks t).2.2.2.2.2.1]))

/-- The same of output 5: where every step's block is its part of `G`, the array ends as `G`. -/
theorem whole5 (G : Vec Ideal S4096x16 .i32) (h : ∀ (t : Fin cfg0.N) (p : Fin 256) (k : Fin 16),
    out0_5 (grid0.coords t) (iblk m c 0 t) (iblk m c 1 t) (iblk m c 2 t) (iblk m c 3 t) (ix2 p k) = G (ix2 (particle t p) k)) :
    (dats m 0 c).arrAt 5 cfg0.N = G := by
  refine (dats m 0 c).arrAt_eq_of_covers 5 _ (by decide +kernel) fun t hf y => ?_
  obtain ⟨p, k, rfl⟩ := split_index y
  blk_simp
  rw [after0_5]
  exact (h t p k).trans (congrArg G (show ix2 (particle t p) k = (win0_5.blk t).view.emb (ix2 p k) by unfold particle; blk_ext [(blocks t).2.2.2.2.2.2.1]))

/-- The same of output 6: where every step's block is its part of `G`, the array ends as `G`. -/
theorem whole6 (G : Vec Ideal S4096x16 .i32) (h : ∀ (t : Fin cfg0.N) (p : Fin 256) (k : Fin 16),
    out0_6 (grid0.coords t) (iblk m c 0 t) (iblk m c 1 t) (iblk m c 2 t) (iblk m c 3 t) (ix2 p k) = G (ix2 (particle t p) k)) :
    (dats m 0 c).arrAt 6 cfg0.N = G := by
  refine (dats m 0 c).arrAt_eq_of_covers 6 _ (by decide +kernel) fun t hf y => ?_
  obtain ⟨p, k, rfl⟩ := split_index y
  blk_simp
  rw [after0_6]
  exact (h t p k).trans (congrArg G (show ix2 (particle t p) k = (win0_6.blk t).view.emb (ix2 p k) by unfold particle; blk_ext [(blocks t).2.2.2.2.2.2.2.1]))

/-- The same of output 7: where every step's block is its part of `G`, the array ends as `G`. -/
theorem whole7 (G : Vec Ideal S4096x16 .f32) (h : ∀ (t : Fin cfg0.N) (p : Fin 256) (k : Fin 16),
    out0_7 (grid0.coords t) (iblk m c 0 t) (iblk m c 1 t) (iblk m c 2 t) (iblk m c 3 t) (ix2 p k) = G (ix2 (particle t p) k)) :
    (dats m 0 c).arrAt 7 cfg0.N = G := by
  refine (dats m 0 c).arrAt_eq_of_covers 7 _ (by decide +kernel) fun t hf y => ?_
  obtain ⟨p, k, rfl⟩ := split_index y
  blk_simp
  rw [after0_7]
  exact (h t p k).trans (congrArg G (show ix2 (particle t p) k = (win0_7.blk t).view.emb (ix2 p k) by unfold particle; blk_ext [(blocks t).2.2.2.2.2.2.2.2.1]))

/-- The same of output 8: where every step's block is its part of `G`, the array ends as `G`. -/
theorem whole8 (G : Vec Ideal S4096x16 .f32) (h : ∀ (t : Fin cfg0.N) (p : Fin 256) (k : Fin 16),
    out0_8 (grid0.coords t) (iblk m c 0 t) (iblk m c 1 t) (iblk m c 2 t) (iblk m c 3 t) (ix2 p k) = G (ix2 (particle t p) k)) :
    (dats m 0 c).arrAt 8 cfg0.N = G := by
  refine (dats m 0 c).arrAt_eq_of_covers 8 _ (by decide +kernel) fun t hf y => ?_
  obtain ⟨p, k, rfl⟩ := split_index y
  blk_simp
  rw [after0_8]
  exact (h t p k).trans (congrArg G (show ix2 (particle t p) k = (win0_8.blk t).view.emb (ix2 p k) by unfold particle; blk_ext [(blocks t).2.2.2.2.2.2.2.2.2.1]))

/-- The same of output 9: where every step's block is its part of `G`, the array ends as `G`. -/
theorem whole9 (G : Vec Ideal S4096x16 .f32) (h : ∀ (t : Fin cfg0.N) (p : Fin 256) (k : Fin 16),
    out0_9 (grid0.coords t) (iblk m c 0 t) (iblk m c 1 t) (iblk m c 2 t) (iblk m c 3 t) (ix2 p k) = G (ix2 (particle t p) k)) :
    (dats m 0 c).arrAt 9 cfg0.N = G := by
  refine (dats m 0 c).arrAt_eq_of_covers 9 _ (by decide +kernel) fun t hf y => ?_
  obtain ⟨p, k, rfl⟩ := split_index y
  blk_simp
  rw [after0_9]
  exact (h t p k).trans (congrArg G (show ix2 (particle t p) k = (win0_9.blk t).view.emb (ix2 p k) by unfold particle; blk_ext [(blocks t).2.2.2.2.2.2.2.2.2.2.1]))

/-- The same of output 10: where every step's block is its part of `G`, the array ends as `G`. -/
theorem whole10 (G : Vec Ideal S4096x16 .f32) (h : ∀ (t : Fin cfg0.N) (p : Fin 256) (k : Fin 16),
    out0_10 (grid0.coords t) (iblk m c 0 t) (iblk m c 1 t) (iblk m c 2 t) (iblk m c 3 t) (ix2 p k) = G (ix2 (particle t p) k)) :
    (dats m 0 c).arrAt 10 cfg0.N = G := by
  refine (dats m 0 c).arrAt_eq_of_covers 10 _ (by decide +kernel) fun t hf y => ?_
  obtain ⟨p, k, rfl⟩ := split_index y
  blk_simp
  rw [after0_10]
  exact (h t p k).trans (congrArg G (show ix2 (particle t p) k = (win0_10.blk t).view.emb (ix2 p k) by unfold particle; blk_ext [(blocks t).2.2.2.2.2.2.2.2.2.2.2]))

variable (hx : ∀ a k, pos m c (ix3 a 5 k) ≠ ⊤ ∧ pos m c (ix3 a 5 k) ≠ ⊥)
include hx

/-- What step `t` reads, given finite most recent positions. -/
theorem reads (t : Fin cfg0.N) : Reads (iblk m c 0 t) (iblk m c 1 t) (pos m c) (particle t) where
  rows p k := (block_rows m c t p k).trans (rows_apply _ _ k)
  all0 b := (block_latest m c t 0 b).trans (latest_apply _ 0 b 0 rfl)
  all1 b := (block_latest m c t 1 b).trans (latest_apply _ 1 b 1 rfl)
  all2 b := (block_latest m c t 2 b).trans (latest_apply _ 2 b 2 rfl)
  finite := hx

/-- The node array. -/
theorem node_array (τ : Fin 4096 → Fin 9) (hτ : ∀ a, typ m c (ix1 a) = BitVec.ofNat 32 (τ a).val) :
    (dats m 0 c).arrAt 4 cfg0.N = fun y : S4096x37.Idx => node (pos m c) τ (table m c) (y 0) (y 1) :=
  whole4 m c _ fun t p k => (node_apply (grid0.coords t) _ _ (reads m c hx t) p τ ((block_types m c t p).trans ((column_apply _ _).trans (hτ _))) k).trans
    (congrArg (fun e => node (pos m c) τ e (particle t p) k) (block_table m c t))

/-- The senders: the sixteen nearest particles of each. -/
theorem send_array :
    (dats m 0 c).arrAt 5 cfg0.N = fun y : S4096x16.Idx => BitVec.ofNat 32 (near (pos m c) (y 0) (y 1)).val :=
  whole5 m c _ fun t p k => senders_apply (grid0.coords t) _ _ (reads m c hx t) p k

omit hx in
/-- The receivers: the particle itself. -/
theorem recv_array :
    (dats m 0 c).arrAt 6 cfg0.N = fun y : S4096x16.Idx => BitVec.ofNat 32 (y 0).val :=
  whole6 m c _ fun t p k => receivers_apply (grid0.coords t) _ _ p k (blocks t).1

/-- The displacements along the first coordinate. -/
theorem dx_array :
    (dats m 0 c).arrAt 7 cfg0.N = fun y : S4096x16.Idx => disp (pos m c) (y 0) (y 1) 0 :=
  whole7 m c _ fun t p k => out_dx_apply (grid0.coords t) _ _ (reads m c hx t) p k

/-- The displacements along the second coordinate. -/
theorem dy_array :
    (dats m 0 c).arrAt 8 cfg0.N = fun y : S4096x16.Idx => disp (pos m c) (y 0) (y 1) 1 :=
  whole8 m c _ fun t p k => out_dy_apply (grid0.coords t) _ _ (reads m c hx t) p k

/-- The displacements along the third coordinate. -/
theorem dz_array :
    (dats m 0 c).arrAt 9 cfg0.N = fun y : S4096x16.Idx => disp (pos m c) (y 0) (y 1) 2 :=
  whole9 m c _ fun t p k => out_dz_apply (grid0.coords t) _ _ (reads m c hx t) p k

/-- The displacements' lengths. -/
theorem len_array :
    (dats m 0 c).arrAt 10 cfg0.N = fun y : S4096x16.Idx => len (pos m c) (y 0) (y 1) :=
  whole10 m c _ fun t p k => out_len_apply (grid0.coords t) _ _ (reads m c hx t) p k

end Cert.Proof.Arrays

end
-- ==== Proof.Tail.lean ====
/- What the kernel's host operations make of the grid's arrays: the senders and the receivers stacked into the edge index,
   the displacements and the lengths stacked into the edge features. -/
module

public import proofs.«01_k».proof.Proof.Spec
public import proofs.«01_k».proof.Proof.Gen.KernelIdeal.Frame
public import Idealize.ShloMosaic.Lib.Pointwise

@[expose] public section

set_option maxRecDepth 16384

noncomputable section

namespace Cert.Proof.Tail

open Idealize.ShloMosaic Idealize.ShloMosaic.TcCoe Cert.KernelIdeal Cert.KernelIdeal.Gen Cert.Proof.Spec

/-- The edge index made of an array of senders and one of receivers. -/
def indexOf (s r : Vec Ideal S4096x16 .i32) : Vec Ideal S2x65536 .i32 :=
  concatenate S2x65536 0 [⟨S1x65536, broadcastInDim S1x65536 ![1] bcast_S65536_S1x65536_1 (shapeCast S65536 s shapeCasts_S4096x16_S65536)⟩,
    ⟨S1x65536, broadcastInDim S1x65536 ![1] bcast_S65536_S1x65536_1 (shapeCast S65536 r shapeCasts_S4096x16_S65536)⟩]
    concatenates_S1x65536_S1x65536_S2x65536_d0

/-- The edge features made of four arrays. -/
def featuresOf (x y z d : Vec Ideal S4096x16 .f32) : Vec Ideal S65536x4 .f32 :=
  shapeCast S65536x4 (concatenate S4096x16x4 2
    [⟨S4096x16x1, broadcastInDim S4096x16x1 ![0, 1] bcast_S4096x16_S4096x16x1_0_1 x⟩,
     ⟨S4096x16x1, broadcastInDim S4096x16x1 ![0, 1] bcast_S4096x16_S4096x16x1_0_1 y⟩,
     ⟨S4096x16x1, broadcastInDim S4096x16x1 ![0, 1] bcast_S4096x16_S4096x16x1_0_1 z⟩,
     ⟨S4096x16x1, broadcastInDim S4096x16x1 ![0, 1] bcast_S4096x16_S4096x16x1_0_1 d⟩]
    concatenates_S4096x16x1_S4096x16x1_S4096x16x1_S4096x16x1_S4096x16x4_d2) shapeCasts_S4096x16x4_S65536x4

variable (W : Valuation Cert.KernelIdeal.τ sig (Elt Ideal))

/-- The host operations leave the edge index made of the arrays of senders and receivers. -/
theorem after_index : StableHlo.after (hostOps1 (F := Ideal)) W (Proc.devRef .tc main_v13)
    = indexOf (W (Proc.devRef .tc main_v8_1)) (W (Proc.devRef .tc main_v8_2)) := by
  after_results
  rfl

/-- The host operations leave the edge features made of the four arrays of displacements and lengths. -/
theorem after_features : StableHlo.after (hostOps1 (F := Ideal)) W (Proc.devRef .tc main_v19)
    = featuresOf (W (Proc.devRef .tc main_v8_3)) (W (Proc.devRef .tc main_v8_4)) (W (Proc.devRef .tc main_v8_5)) (W (Proc.devRef .tc main_v8_6)) := by
  after_results
  rfl

/-- An entry of the edge index: senders in the first row, receivers in the second, neighbour by neighbour. -/
theorem indexOf_apply (s r : Vec Ideal S4096x16 .i32) (e : Fin 2) (k : Fin 65536) :
    indexOf s r (ix2 e k) = if e.val < 1 then s (ix2 ⟨k.val / 16, by omega⟩ ⟨k.val % 16, by omega⟩)
      else r (ix2 ⟨k.val / 16, by omega⟩ ⟨k.val % 16, by omega⟩) := by
  pointwise [indexOf]
  rfl

/-- An entry of the edge features: the three displacements, then the length. -/
theorem featuresOf_apply (x y z d : Vec Ideal S4096x16 .f32) (k : Fin 65536) (c : Fin 4) :
    featuresOf x y z d (ix2 k c) = if c.val < 1 then x (ix2 ⟨k.val / 16, by omega⟩ ⟨k.val % 16, by omega⟩)
      else if c.val - 1 < 1 then y (ix2 ⟨k.val / 16, by omega⟩ ⟨k.val % 16, by omega⟩)
      else if c.val - 1 - 1 < 1 then z (ix2 ⟨k.val / 16, by omega⟩ ⟨k.val % 16, by omega⟩)
      else d (ix2 ⟨k.val / 16, by omega⟩ ⟨k.val % 16, by omega⟩) := by
  pointwise [featuresOf]
  rfl

/-- Stacking the neighbours and the particles gives the edge index. -/
theorem index_eq (x : Track.Idx → EReal) :
    indexOf (fun y => BitVec.ofNat 32 (near x (y 0) (y 1)).val) (fun y => BitVec.ofNat 32 (y 0).val)
      = fun y => edgeIndex x (y 0) (y 1) := by
  funext y
  obtain ⟨e, k, rfl⟩ : ∃ (e : Fin 2) (k : Fin 65536), y = ix2 e k := ⟨y 0, y 1, funext fun a => match a with
    | ⟨0, _⟩ => rfl
    | ⟨1, _⟩ => rfl⟩
  exact indexOf_apply _ _ e k

/-- Stacking the displacements and the lengths gives the edge features. -/
theorem features_eq (x : Track.Idx → EReal) :
    featuresOf (fun y => disp x (y 0) (y 1) 0) (fun y => disp x (y 0) (y 1) 1) (fun y => disp x (y 0) (y 1) 2)
      (fun y => len x (y 0) (y 1)) = fun y => edge x (y 0) (y 1) := by
  funext y
  obtain ⟨k, c, rfl⟩ : ∃ (k : Fin 65536) (c : Fin 4), y = ix2 k c := ⟨y 0, y 1, funext fun a => match a with
    | ⟨0, _⟩ => rfl
    | ⟨1, _⟩ => rfl⟩
  refine (featuresOf_apply _ _ _ _ k c).trans ?_
  fin_cases c <;> rfl

end Cert.Proof.Tail

end
-- ==== Proof.Result.lean ====
/- The kernel's run: what its three results hold at the end, given finite most recent positions and known types. -/
module

public import proofs.«01_k».proof.Proof.Arrays
public import proofs.«01_k».proof.Proof.Tail

@[expose] public section

set_option maxRecDepth 16384

noncomputable section

namespace Cert.Proof.Result

open Idealize.ShloMosaic Idealize.ShloMosaic.TcCoe Idealize.SL.Sem Cert.KernelIdeal Cert.KernelIdeal.Gen Cert.Proof.Spec Cert.Proof.Entry
  Cert.Proof.Arrays Cert.Proof.Tail

variable (m : (ℓ : Loc nD Cert.KernelIdeal.τ sig) → Buf (Elt Ideal) ℓ)

/-- The grid's arrays are eleven different buffers. -/
theorem distinct : Function.Injective (Pipeline.arrRef spec0) := by decide

/-- The valuation the host operations after the grid start from. -/
abbrev left (c : Dev nD) : Valuation Cert.KernelIdeal.τ sig (Elt Ideal) :=
  Pipeline.withArrays spec0 c (V0 m c) fun w => (dats m 0 c).arrAt w cfg0.N

/-- In that valuation a grid array holds what the last step left in it. -/
theorem left_arr (c : Dev nD) (w : Fin 11) : left m c (Proc.devRef .tc (Pipeline.arrRef spec0 w)) = (dats m 0 c).arrAt w cfg0.N :=
  Pipeline.withArrays_arr spec0 distinct c (V0 m c) _ w

variable {m} {c : Dev nD} (hx : ∀ a k, pos m c (ix3 a 5 k) ≠ ⊤ ∧ pos m c (ix3 a 5 k) ≠ ⊥)
include hx

/-- After the host operations the edge index is the specification's. -/
theorem tail_index : Pipeline.afterTail₀ cfgs (dats m) 0 (V0 m) [hostOps1] c main_v13 = fun y => edgeIndex (pos m c) (y 0) (y 1) := by
  refine (after_index (left m c)).trans ?_
  refine (congrArg₂ indexOf ((left_arr m c 5).trans (send_array m c hx)) ((left_arr m c 6).trans (recv_array m c))).trans ?_
  exact index_eq (pos m c)

/-- After the host operations the edge features are the specification's. -/
theorem tail_features : Pipeline.afterTail₀ cfgs (dats m) 0 (V0 m) [hostOps1] c main_v19 = fun y => edge (pos m c) (y 0) (y 1) := by
  refine (after_features (left m c)).trans ?_
  have h7 := (left_arr m c 7).trans (dx_array m c hx)
  have h8 := (left_arr m c 8).trans (dy_array m c hx)
  have h9 := (left_arr m c 9).trans (dz_array m c hx)
  have h10 := (left_arr m c 10).trans (len_array m c hx)
  refine Eq.trans ?_ (features_eq (pos m c))
  exact congr (congr (congrArg₂ featuresOf h7 h8) h9) h10

omit hx in
/-- Every run of the kernel ends with the three results at the specification and the arguments as they were. -/
theorem run (ρ : Dev nD → PrngReg) (hx : ∀ c a k, pos m c (ix3 a 5 k) ≠ ⊤ ∧ pos m c (ix3 a 5 k) ≠ ⊥)
    (types : Dev nD → Fin 4096 → Fin 9) (ht : ∀ c a, typ m c (ix1 a) = BitVec.ofNat 32 (types c a).val) :
    θ_run defs (onTc (τ := Cert.KernelIdeal.τ) (main (F := Ideal))) ⟨m, fun _ => 0, ρ⟩ (fun r => ∀ c : Dev nD,
      r.2.mem ((c.tc : Thread nD Cert.KernelIdeal.τ).loc main_v8_0) = (fun y => node (pos m c) (types c) (table m c) (y 0) (y 1))
      ∧ r.2.mem ((c.tc : Thread nD Cert.KernelIdeal.τ).loc main_v13) = (fun y => edgeIndex (pos m c) (y 0) (y 1))
      ∧ r.2.mem ((c.tc : Thread nD Cert.KernelIdeal.τ).loc main_v19) = (fun y => edge (pos m c) (y 0) (y 1))
      ∧ r.2.mem ((c.tc : Thread nD Cert.KernelIdeal.τ).loc main_arg0) = m ((c.tc : Thread nD Cert.KernelIdeal.τ).loc main_arg0)
      ∧ r.2.mem ((c.tc : Thread nD Cert.KernelIdeal.τ).loc main_arg1) = m ((c.tc : Thread nD Cert.KernelIdeal.τ).loc main_arg1)
      ∧ r.2.mem ((c.tc : Thread nD Cert.KernelIdeal.τ).loc main_arg2) = m ((c.tc : Thread nD Cert.KernelIdeal.τ).loc main_arg2)) :=
  (θ_run defs _ _).mono (fun r h c => ⟨((h.1 c).1 4).trans (node_array m c (hx c) (types c) (ht c)),
      ((h.1 c).2 main_v13 (Pipeline.mem_restRefs_of main_v13 (by decide) (by decide))).trans (tail_index (hx c)),
      ((h.1 c).2 main_v19 (Pipeline.mem_restRefs_of main_v19 (by decide) (by decide))).trans (tail_features (hx c)),
      h.2 c⟩)
    (θ_run_and (run_main m ρ) (unchanged m ρ))

end Cert.Proof.Result

end
-- ==== Proof.Reference.lean ====
/- The reference's three results, entry by entry: they are `Spec`'s node features, edge index and edge features.

   The nearest neighbours come first: the reference sorts the negated squared distances downwards and keeps sixteen
   positions of each row, which are the first sixteen of the nearest-first order. -/
module

public import proofs.«01_k».proof.Proof.Spec
public import proofs.«01_k».proof.Proof.Gen.ReferenceIdeal.Read
public import Idealize.ShloMosaic.Lib.Pointwise
public import Idealize.ShloMosaic.Lib.Routing.Ops
public import Idealize.ShloMosaic.Lib.Routing.OpsPair

@[expose] public section

set_option maxRecDepth 16384

noncomputable section

namespace Cert.Proof.Reference

open Idealize.ShloMosaic Cert.ReferenceIdeal Cert.ReferenceIdeal.Gen Cert.ReferenceIdeal.Read
open Cert.Proof.Nearest Cert.Proof.Spec

/-! ## The nearest neighbours -/

/-- Position `j` of the kept part of a row of a table sorted downwards is position `j` of the row's nearest-first
    order, where the table holds the negated values. -/
theorem kept_position {R C w : ℕ} (g : Fin R → Fin C → EReal) (v : FVec Ideal ⟨2, ![R, C]⟩ .f32)
    (hv : ∀ a b, v (ix2 a b) = -(g a b)) (hw : w ≤ C) (a : Fin R) (j : Fin w)
    (h : (⟨2, ![R, C]⟩ : Shape).Slices (fun _ => 0) ⟨2, ![R, w]⟩) :
    (Host.topK ⟨2, ![R, w]⟩ 1 (FloatOps.cmpfTotal (F := Ideal) (φ := .f32) .gt) v h).2 (ix2 a j)
      = BitVec.ofNat 32 (order (g a) ⟨j.val, by omega⟩).val := by
  have hR := sort_by_value (g a)
    (fun k k' => FloatOps.cmpfTotal (F := Ideal) (φ := .f32) .gt (v (ix2 a k)) (v (ix2 a k')) == 1#1) fun k k' => by
      rw [hv, hv]
      show (BitVec.ofBool (decide (-(g a k') < -(g a k))) == 1#1) = _
      simp only [EReal.neg_lt_neg_iff]
      cases decide (g a k < g a k') <;> rfl
  have along : ∀ (i : (⟨2, ![R, C]⟩ : Shape).Idx) (k : Fin C), i 0 = a → i.along (1 : Fin 2) k = ix2 a k := fun i k h => by
    funext d
    match d with
    | ⟨0, _⟩ => exact h
    | ⟨1, _⟩ => rfl
  have hs : ∀ i : (⟨2, ![R, C]⟩ : Shape).Idx, i 0 = a → i 1 = (⟨j.val, by omega⟩ : Fin C) →
      (BitVec.ofNat 32 (sortedFrom (fun k k' => FloatOps.cmpfTotal (F := Ideal) (φ := .f32) .gt
            (v (i.along (1 : Fin 2) k)) (v (i.along (1 : Fin 2) k')) == 1#1) (i 1)).val)
        = BitVec.ofNat 32 (order (g a) ⟨j.val, by omega⟩).val := fun i h0 h1 => by
    rw [h1]
    have he : (fun k k' => FloatOps.cmpfTotal (F := Ideal) (φ := .f32) .gt
            (v (i.along (1 : Fin 2) k)) (v (i.along (1 : Fin 2) k')) == 1#1)
        = fun k k' => FloatOps.cmpfTotal (F := Ideal) (φ := .f32) .gt (v (ix2 a k)) (v (ix2 a k')) == 1#1 :=
      funext fun k => funext fun k' => by rw [along i k h0, along i k' h0]
    rw [he]
    exact congrArg (fun f : Fin C → Fin C => BitVec.ofNat 32 (f ⟨j.val, by omega⟩).val) hR
  exact hs _ (Fin.ext (Nat.zero_add _)) (Fin.ext (Nat.zero_add _))

variable (x0 : FVec Ideal S4096x6x3 .f32) (x1 : IVec S4096 32) (x2 : FVec Ideal S9x16 .f32)

/-- The table the reference sorts holds the negated squared distances. -/
theorem negated_gap (p k : Fin 4096) : val_main_v17 (F := Ideal) x0 (ix2 p k) = -(gap x0 p k) := by
  pointwise [val_main_v17, val_main_v16, val_main_v15, val_main_v14, val_main_v13, val_main_v12, val_main_v11,
    val_main_v10, val_main_v9, val_main_v8, val_main_v7, val_main_v6, val_main_v5, val_main_v4, val_main_v3,
    val_main_cst, val_main_cst_0]
  simp only [Fin.sum_univ_three]
  rfl

/-- The indices the reference keeps are the nearest neighbours. -/
theorem indices_apply (a : Fin 4096) (j : Fin 16) :
    val_main_indices (F := Ideal) x0 (ix2 a j) = BitVec.ofNat 32 (near x0 a j).val :=
  kept_position (gap x0) _ (negated_gap x0) (by norm_num) a j _

/-! ## The edge index -/

/-- The reference's edge index. -/
theorem index_apply (s : Fin 2) (k : Fin 65536) : val_main_v24 (F := Ideal) x0 (ix2 s k) = edgeIndex x0 s k := by
  pointwise [val_main_v24, val_main_v23, val_main_v22, val_main_v21, val_main_v20, val_main_v19, val_main_v18]
  rw [indices_apply]
  rfl

/-! ## The edge features -/

/-- A word below `2 ^ 31` is not negative, so the wrap of negative indices leaves it. -/
theorem unwrapped (n : ℕ) (hn : n < 2 ^ 31) (b : BitVec 32) :
    Scalar.select (IntOp.cmpi .slt (BitVec.ofNat 32 n) 0#32) b (BitVec.ofNat 32 n) = BitVec.ofNat 32 n :=
  Routing.wrap_of_lt _ _ (by
    rw [BitVec.toNat_ofNat, Nat.mod_eq_of_lt (by omega)]
    exact hn)

/-- The sender an edge looks up. -/
theorem sender_apply (p : Fin 65536) (k : Fin 1) : val_main_v49 (F := Ideal) x0 (ix2 p k)
    = BitVec.ofNat 32 (near x0 ⟨p.val / 16, by omega⟩ ⟨p.val % 16, by omega⟩).val := by
  pointwise [val_main_v49, val_main_v48, val_main_v47, val_main_v46, val_main_v45, val_main_v44, val_main_v21,
    val_main_c, val_main_c_8]
  rw [indices_apply]
  exact unwrapped _ (by omega) _

/-- The receiver an edge looks up. -/
theorem receiver_apply (p : Fin 65536) (k : Fin 1) :
    val_main_v56 (F := Ideal) (ix2 p k) = BitVec.ofNat 32 (p.val / 16) := by
  pointwise [val_main_v56, val_main_v55, val_main_v54, val_main_v53, val_main_v52, val_main_v51, val_main_v20,
    val_main_v19, val_main_v18, val_main_c_9, val_main_c_10]
  exact unwrapped _ (by omega) _

/-- The most recent positions. -/
theorem latest_apply (p : Fin 4096) (k : Fin 3) : val_main_v4 (F := Ideal) x0 (ix2 p k) = x0 (ix3 p 5 k) := by
  pointwise [val_main_v4, val_main_v3]

/-- A look-up of rows of positions, where the index holds a particle. -/
theorem lookup_apply (v : FVec Ideal S4096x3 .f32) (i : IVec S65536x1 32) (p : Fin 65536) (k : Fin 3) (b : Fin 4096)
    (h : i (ix2 p (0 : Fin 1)) = BitVec.ofNat 32 b.val) :
    Host.gather gather_S4096x3_S65536x1_S65536x3_1_0_n_n_0_1_13 v i (ix2 p k) = v (ix2 b k) :=
  Routing.gather_row _ rfl rfl rfl rfl rfl v i p k b h (by norm_num)

/-- The sender's position, edge by edge. -/
theorem from_apply (p : Fin 65536) (k : Fin 3) : val_main_v50 (F := Ideal) x0 (ix2 p k)
    = x0 (ix3 (near x0 ⟨p.val / 16, by omega⟩ ⟨p.val % 16, by omega⟩) 5 k) :=
  (lookup_apply _ _ p k _ (sender_apply x0 p 0)).trans (latest_apply x0 _ k)

/-- The receiver's position, edge by edge. -/
theorem to_apply (p : Fin 65536) (k : Fin 3) :
    val_main_v57 (F := Ideal) x0 (ix2 p k) = x0 (ix3 ⟨p.val / 16, by omega⟩ 5 k) :=
  (lookup_apply _ _ p k ⟨p.val / 16, by omega⟩ (receiver_apply p 0)).trans (latest_apply x0 _ k)

/-- The reference's edge features. -/
theorem features_apply (p : Fin 65536) (k : Fin 4) : val_main_v67 (F := Ideal) x0 (ix2 p k) = edge x0 p k := by
  pointwise [val_main_v67, val_main_v66, val_main_v65, val_main_v64, val_main_v63, val_main_v62, val_main_v61,
    val_main_v60, val_main_v59, val_main_v58, val_main_cst_11, val_main_cst_12, val_main_cst_13]
  simp only [from_apply, to_apply, Fin.sum_univ_three]
  rfl

/-! ## The node features -/

/-- For each of the nine types the look-up's range test succeeds. -/
theorem in_range : ∀ t : Fin 9,
    IntOp.andi (IntOp.cmpi .sge (BitVec.ofNat 32 t.val) 0#32) (IntOp.cmpi .sle (BitVec.ofNat 32 t.val) 8#32) = 1#1 := by
  decide

/-- The type the table look-up uses. -/
theorem type_apply (p : Fin 4096) (k : Fin 1) (t : Fin 9) (ht : x1 (ix1 p) = BitVec.ofNat 32 t.val) :
    val_main_call1_v5 (F := Ideal) x1 (ix2 p k) = BitVec.ofNat 32 t.val := by
  pointwise [val_main_call1_v5, val_main_call1_v4, val_main_call1_v3, val_main_call1_v2, val_main_call1_v1,
    val_main_call1_v0, val_main_call1_c, val_main_call1_c_0]
  rw [ht]
  exact unwrapped _ (by omega) _

/-- The embedding looked up for a particle is its type's row of the table. -/
theorem embedding_apply (p : Fin 4096) (k : Fin 16) (t : Fin 9) (ht : x1 (ix1 p) = BitVec.ofNat 32 t.val) :
    val_main_v42 (F := Ideal) x1 x2 (ix2 p k) = x2 (ix2 t k) := by
  pointwise [val_main_v42, val_main_call1_v14, val_main_call1_v12, val_main_call1_v11, val_main_call1_v10,
    val_main_call1_v9, val_main_call1_v8, val_main_call1_v7, val_main_call1_v6, val_main_call1_v5, val_main_call1_v4,
    val_main_call1_v3, val_main_call1_v2, val_main_call1_v1, val_main_call1_v0, val_main_call1_v15,
    val_main_call1_cst, val_main_call1_c, val_main_call1_c_0, val_main_call1_c_1, val_main_call1_c_2,
    val_main_call1_c_3]
  rw [ht, unwrapped _ (by omega), in_range, Finset.univ_unique, Finset.fold_singleton]
  refine Eq.trans (if_pos rfl) ?_
  exact Routing.gather_row _ rfl rfl rfl rfl rfl x2 _ p k t (type_apply x1 p 0 t ht) (by norm_num)

/-- Dividing by one changes nothing. -/
theorem div_by_one (a : EReal) : Ideal.div a 1 = a := by
  have h : (1 : EReal) ≠ 0 := one_ne_zero
  simp [Ideal.div]

/-- The reference's node features. -/
theorem node_apply (τ : Fin 4096 → Fin 9) (hτ : ∀ a, x1 (ix1 a) = BitVec.ofNat 32 (τ a).val) (p : Fin 4096)
    (k : Fin 37) : val_main_v43 (F := Ideal) x0 x1 x2 (ix2 p k) = node x0 τ x2 p k := by
  have one : Ideal.ofBits FTy.f32 1065353216#32 = 1 := Ideal.ofBits_one_f32
  pointwise [val_main_v43, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v4, val_main_v3, val_main_v2, val_main_v1, val_main_v0,
    val_main_cst_1, val_main_cst_2, val_main_cst_3, val_main_cst_4, val_main_cst_5, val_main_cst_6, val_main_cst_7,
    val_main_call0_v0, val_main_call0_v1, val_main_call0_v2, val_main_call0_v3, val_main_call0_v4]
  simp only [embedding_apply x1 x2 _ _ _ (hτ _), div_by_one,
    show id (constant (F := Ideal) S_ FTy.f32 1065353216#32) ix0 = 1 from one]
  rfl

end Cert.Proof.Reference

end
-- ==== Proof.RefRun.lean ====
/- The reference's run: what its three results hold at the end, given known types. -/
module

public import proofs.«01_k».proof.Proof.Reference
public import proofs.«01_k».proof.Proof.Gen.ReferenceIdeal.Run

@[expose] public section

set_option maxRecDepth 16384

noncomputable section

namespace Cert.Proof.RefRun

open Idealize.ShloMosaic Idealize.ShloMosaic.TcCoe Idealize.SL.Sem Cert.ReferenceIdeal Cert.ReferenceIdeal.Gen
open Cert.ReferenceIdeal.Read Cert.Proof.Spec Cert.Proof.Reference

/-- A two-dimensional index is the pair of its coordinates. -/
theorem pair_index {A B : ℕ} (y : (⟨2, ![A, B]⟩ : Shape).Idx) : y = ix2 (y 0 : Fin A) (y 1 : Fin B) := by
  funext d
  match d with
  | ⟨0, _⟩ => rfl
  | ⟨1, _⟩ => rfl

/-- Two arrays that agree at every pair of coordinates are equal. -/
theorem by_pairs {α : Type} {A B : ℕ} (f : (⟨2, ![A, B]⟩ : Shape).Idx → α) (g : Fin A → Fin B → α)
    (h : ∀ a b, f (ix2 a b) = g a b) : f = fun y => g (y 0) (y 1) :=
  funext fun y => (congrArg f (pair_index y)).trans (h _ _)

/-- Every run of the reference ends with the three results at the specification and the arguments as they were. -/
theorem run (m : (ℓ : Loc nD Cert.ReferenceIdeal.τ sig) → Buf (Elt Ideal) ℓ) (ρ : Dev nD → PrngReg)
    (x : Dev nD → FVec Ideal S4096x6x3 .f32) (t : Dev nD → IVec S4096 32) (e : Dev nD → FVec Ideal S9x16 .f32)
    (hx : ∀ c : Dev nD, m ((c.tc : Thread nD Cert.ReferenceIdeal.τ).loc main_arg0) = x c)
    (ht : ∀ c : Dev nD, m ((c.tc : Thread nD Cert.ReferenceIdeal.τ).loc main_arg1) = t c)
    (he : ∀ c : Dev nD, m ((c.tc : Thread nD Cert.ReferenceIdeal.τ).loc main_arg2) = e c)
    (types : Dev nD → Fin 4096 → Fin 9) (hτ : ∀ c a, t c (ix1 a) = BitVec.ofNat 32 (types c a).val) :
    θ_run defs (onTc (τ := Cert.ReferenceIdeal.τ) (main (F := Ideal))) ⟨m, fun _ => 0, ρ⟩ (fun r => ∀ c : Dev nD,
      r.2.mem ((c.tc : Thread nD Cert.ReferenceIdeal.τ).loc main_v43) = (fun y => node (x c) (types c) (e c) (y 0) (y 1))
      ∧ r.2.mem ((c.tc : Thread nD Cert.ReferenceIdeal.τ).loc main_v24) = (fun y => edgeIndex (x c) (y 0) (y 1))
      ∧ r.2.mem ((c.tc : Thread nD Cert.ReferenceIdeal.τ).loc main_v67) = (fun y => edge (x c) (y 0) (y 1))
      ∧ r.2.mem ((c.tc : Thread nD Cert.ReferenceIdeal.τ).loc main_arg0) = m ((c.tc : Thread nD Cert.ReferenceIdeal.τ).loc main_arg0)
      ∧ r.2.mem ((c.tc : Thread nD Cert.ReferenceIdeal.τ).loc main_arg1) = m ((c.tc : Thread nD Cert.ReferenceIdeal.τ).loc main_arg1)
      ∧ r.2.mem ((c.tc : Thread nD Cert.ReferenceIdeal.τ).loc main_arg2) = m ((c.tc : Thread nD Cert.ReferenceIdeal.τ).loc main_arg2)) :=
  (θ_run defs _ _).mono (fun r h c => by
    obtain ⟨h0, h1, h2, ha⟩ := h c
    refine ⟨(h0.trans (val_main_v43_eq _ _ _)).trans ?_, (h1.trans (val_main_v24_eq _)).trans ?_,
      (h2.trans (val_main_v67_eq m c)).trans ?_, ha⟩
    · rw [hx, ht, he]
      exact by_pairs _ _ (node_apply (x c) (t c) (e c) (types c) (hτ c))
    · rw [hx]
      exact by_pairs _ _ (index_apply (x c))
    · rw [hx]
      exact by_pairs _ _ (features_apply (x c)))
    (Cert.ReferenceIdeal.Value.run (F := Ideal) m ρ)

end Cert.Proof.RefRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Tame
public import proofs.«01_k».proof.Proof.Result
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The reference leaves its arguments as they were and has no counters. -/
theorem frame_reference : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Over the extended reals the kernel and the reference end with the same three results, for arguments with finite
    most recent positions and known types: both hold what `Spec` says. -/
theorem algebraic : Cert.algebraic_KernelIdeal_ReferenceIdeal_pre_tame_inputs
    (hPre_tame_inputs := Tame.facts) := by
  intro m g m' g' hpre hargs
  haveI := Tame.facts
  have hx := fun c => Tame.positions _ _ _ (hpre c).1
  have ht := fun c => Tame.types _ _ _ (hpre c).2
  have hτ := fun c => (ht c).choose_spec
  exact ⟨_, _, _, Result.run g hx _ hτ,
    RefRun.run m' g' (Entry.pos m) (Entry.typ m) (Arrays.table m) (fun c => (hargs c).1) (fun c => (hargs c).2.1)
      (fun c => (hargs c).2.2) _ hτ⟩

/-- Everything claimed. -/
theorem claim : Cert.Claim := ⟨Cert.Kernel.Gen.facts, Cert.KernelIdeal.Gen.facts, Cert.ReferenceIdeal.Gen.facts,
  Tame.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial,
  algebraic⟩

end Cert.Proof

end
